-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_peak_finite [hPre_row_peak_finite : Cert.Pre_row_peak_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_peak_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_peak_finite [hPre_row_peak_finite : Cert.Pre_row_peak_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_peak_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_peak_finite [hKernelIdeal : Cert.KernelIdeal.Facts] [hPre_row_peak_finite : Cert.Pre_row_peak_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_peak_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_peak_finite [hReferenceIdeal : Cert.ReferenceIdeal.Facts] [hPre_row_peak_finite : Cert.Pre_row_peak_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_peak_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_row_peak_finite [hKernelIdeal : Cert.KernelIdeal.Facts] [hReferenceIdeal : Cert.ReferenceIdeal.Facts] [hPre_row_peak_finite : Cert.Pre_row_peak_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_peak_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_peak_finite : Cert.Pre_row_peak_finite.Facts),
    quiescent_Kernel (hKernel := hKernel)
    ∧ quiescent_KernelIdeal (hKernelIdeal := hKernelIdeal)
    ∧ quiescent_KernelIdeal_pre_row_peak_finite (hKernelIdeal := hKernelIdeal) (hPre_row_peak_finite := hPre_row_peak_finite)
    ∧ quiescent_ReferenceIdeal (hReferenceIdeal := hReferenceIdeal)
    ∧ quiescent_ReferenceIdeal_pre_row_peak_finite (hReferenceIdeal := hReferenceIdeal) (hPre_row_peak_finite := hPre_row_peak_finite)
    ∧ preserves_Kernel_KernelIdeal
    ∧ algebraic_KernelIdeal_ReferenceIdeal_pre_row_peak_finite (hKernelIdeal := hKernelIdeal) (hReferenceIdeal := hReferenceIdeal) (hPre_row_peak_finite := hPre_row_peak_finite)
-- ==== Pre_row_peak_finite.lean ====
abbrev S1024x100000 : Shape := ⟨2, ![1024, 100000]⟩
abbrev S_ : Shape := ⟨0, ![]⟩
abbrev S1024 : Shape := ⟨1, ![1024]⟩

class Facts : Prop where
  reducesTo_S1024x100000_S1024_d1 : S1024x100000.ReducesTo [1] S1024
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) : IVec S_ 1 :=
  let main_cst : FVec F S_ .f32 := constant S_ .f32 0xFF800000#32
  let main_v0 : FVec F S1024 .f32 := (fun x v => Host.reduce FloatOps.maximumf x v reducesTo_S1024x100000_S1024_d1 h_S_) main_arg0 main_cst
  let main_cst_0 : FVec F S_ .f32 := constant S_ .f32 0xFF800000#32
  let main_v1 : FVec F S1024 .f32 := broadcastInDim S1024 ![] bcast_S_S1024 main_cst_0
  let main_v2 : IVec S1024 1 := cmpf .ogt main_v0 main_v1
  let main_cst_1 : FVec F S_ .f32 := constant S_ .f32 0x7F800000#32
  let main_v3 : FVec F S1024 .f32 := broadcastInDim S1024 ![] bcast_S_S1024 main_cst_1
  let main_v4 : IVec S1024 1 := cmpf .olt main_v0 main_v3
  let main_v5 : IVec S1024 1 := andi main_v2 main_v4
  let main_c : IVec S_ 1 := constantI S_ 1 1#1
  let main_v6 : IVec S_ 1 := (fun x v => Host.reduce IntOp.andi x v reducesTo_S1024_S_d0 h_S_) main_v5 main_c
  main_v6
-- ==== Kernel.lean ====
abbrev S1024x100000 : Shape := ⟨2, ![1024, 100000]⟩
abbrev S100000x1024 : Shape := ⟨2, ![100000, 1024]⟩
abbrev S8x1024 : Shape := ⟨2, ![8, 1024]⟩
abbrev S1000x1024 : Shape := ⟨2, ![1000, 1024]⟩
abbrev S2000x1024 : Shape := ⟨2, ![2000, 1024]⟩
abbrev S1024 : Shape := ⟨1, ![1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x100000, .f32⟩
  | .hbm, ⟨1, _⟩ => ⟨S100000x1024, .f32⟩
  | .hbm, ⟨2, _⟩ => ⟨S100000x1024, .f32⟩
  | .hbm, ⟨3, _⟩ => ⟨S8x1024, .f32⟩
  | .hbm, ⟨4, _⟩ => ⟨S100000x1024, .f32⟩
  | .hbm, ⟨5, _⟩ => ⟨S1024x100000, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S8x1024, .f32⟩
  | .local _ .vmem, ⟨5, _⟩ => ⟨S2000x1024, .f32⟩
  | .local _ .vmem, ⟨6, _⟩ => ⟨S2000x1024, .f32⟩
  | .local _ .vmem, ⟨7, _⟩ => ⟨S8x1024, .f32⟩
  | .local _ .vmem, ⟨8, _⟩ => ⟨S2000x1024, .f32⟩
  | .local _ .vmem, ⟨9, _⟩ => ⟨S2000x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c0_i32_8484 : BitVec 32 := 0#32
  let v25009 : BitVec 1 := Scalar.cmpi .eq arg0 c0_i32_8484
  let v25010 : BitVec 32 := Scalar.extui v25009
  let c0_i32_8485 : BitVec 32 := 0#32
  let v25011 : BitVec 1 := Scalar.cmpi .ne v25010 c0_i32_8485
  v25011

def k0_cond2 (i : grid0.Coords) : BitVec 1 :=
  let arg0 : BitVec 32 := BitVec.ofNat 32 (i 0).val
  let c0_i32_8486 : BitVec 32 := 0#32
  let v25012 : BitVec 1 := Scalar.cmpi .ne arg0 c0_i32_8486
  let v25013 : BitVec 32 := Scalar.extui v25012
  let c0_i32_8487 : BitVec 32 := 0#32
  let v25014 : BitVec 1 := Scalar.cmpi .ne v25013 c0_i32_8487
  v25014

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1024x100000 : Shape := ⟨2, ![1024, 100000]⟩
abbrev S_ : Shape := ⟨0, ![]⟩
abbrev S1 : Shape := ⟨1, ![1]⟩
abbrev S2 : Shape := ⟨1, ![2]⟩
abbrev S1x1 : Shape := ⟨2, ![1, 1]⟩
abbrev S1024 : Shape := ⟨1, ![1024]⟩
abbrev S1024x1 : Shape := ⟨2, ![1024, 1]⟩

abbrev nBuf : Space → Nat
  | .hbm => 300
  | .vmem => 0
  | .smem => 0
  | _ => 0

abbrev hbmTy0_0 (i : Nat) : BufTy := match i % 128 with
  | 0 => ⟨S1024x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S1024x100000, .i64⟩
  | 22 => ⟨S1024x100000, .i64⟩
  | 23 => ⟨S_, .i64⟩
  | 24 => ⟨S1024x100000, .i64⟩
  | 25 => ⟨S1024x100000, .i64⟩
  | 26 => ⟨S_, .i64⟩
  | 27 => ⟨S1024x100000, .i64⟩
  | 28 => ⟨S1024x100000, .i64⟩
  | 29 => ⟨S1024x100000, .i64⟩
  | 30 => ⟨S_, .i64⟩
  | 31 => ⟨S1024x100000, .i64⟩
  | 32 => ⟨S1024x100000, .i64⟩
  | 33 => ⟨S1024x100000, .i32⟩
  | 34 => ⟨S1024x100000, .i32⟩
  | 35 => ⟨S_, .i32⟩
  | 36 => ⟨S_, .i32⟩
  | 37 => ⟨S_, .i32⟩
  | 38 => ⟨S1024x100000, .i32⟩
  | 39 => ⟨S1024x100000, .i32⟩
  | 40 => ⟨S1024x100000, .i32⟩
  | 41 => ⟨S1024x100000, .i32⟩
  | 42 => ⟨S1024x100000, .i32⟩
  | 43 => ⟨S_, .i32⟩
  | 44 => ⟨S1024x100000, .i32⟩
  | 45 => ⟨S1024x100000, .i32⟩
  | 46 => ⟨S_, .i32⟩
  | 47 => ⟨S1024x100000, .i32⟩
  | 48 => ⟨S1024x100000, .i32⟩
  | 49 => ⟨S1024x100000, .i32⟩
  | 50 => ⟨S1024x100000, .i32⟩
  | 51 => ⟨S1024x100000, .i32⟩
  | 52 => ⟨S_, .i32⟩
  | 53 => ⟨S1024x100000, .i32⟩
  | 54 => ⟨S1024x100000, .i32⟩
  | 55 => ⟨S_, .i32⟩
  | 56 => ⟨S1024x100000, .i32⟩
  | 57 => ⟨S1024x100000, .i32⟩
  | 58 => ⟨S1024x100000, .i32⟩
  | 59 => ⟨S1024x100000, .i32⟩
  | 60 => ⟨S1024x100000, .i32⟩
  | 61 => ⟨S_, .i32⟩
  | 62 => ⟨S1024x100000, .i32⟩
  | 63 => ⟨S1024x100000, .i32⟩
  | 64 => ⟨S_, .i32⟩
  | 65 => ⟨S1024x100000, .i32⟩
  | 66 => ⟨S1024x100000, .i32⟩
  | 67 => ⟨S1024x100000, .i32⟩
  | 68 => ⟨S1024x100000, .i32⟩
  | 69 => ⟨S1024x100000, .i32⟩
  | 70 => ⟨S_, .i32⟩
  | 71 => ⟨S1024x100000, .i32⟩
  | 72 => ⟨S1024x100000, .i32⟩
  | 73 => ⟨S_, .i32⟩
  | 74 => ⟨S1024x100000, .i32⟩
  | 75 => ⟨S1024x100000, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S_, .i32⟩
  | 83 => ⟨S1024x100000, .i32⟩
  | 84 => ⟨S1024x100000, .i32⟩
  | 85 => ⟨S1024x100000, .i32⟩
  | 86 => ⟨S_, .i32⟩
  | 87 => ⟨S1024x100000, .i32⟩
  | 88 => ⟨S1024x100000, .i32⟩
  | 89 => ⟨S_, .i32⟩
  | 90 => ⟨S1024x100000, .i32⟩
  | 91 => ⟨S1024x100000, .i32⟩
  | 92 => ⟨S1024x100000, .i32⟩
  | 93 => ⟨S1024x100000, .i32⟩
  | 94 => ⟨S1024x100000, .i32⟩
  | 95 => ⟨S_, .i32⟩
  | 96 => ⟨S1024x100000, .i32⟩
  | 97 => ⟨S1024x100000, .i32⟩
  | 98 => ⟨S_, .i32⟩
  | 99 => ⟨S1024x100000, .i32⟩
  | 100 => ⟨S1024x100000, .i32⟩
  | 101 => ⟨S1024x100000, .i32⟩
  | 102 => ⟨S1024x100000, .i32⟩
  | 103 => ⟨S1024x100000, .i32⟩
  | 104 => ⟨S_, .i32⟩
  | 105 => ⟨S1024x100000, .i32⟩
  | 106 => ⟨S1024x100000, .i32⟩
  | 107 => ⟨S_, .i32⟩
  | 108 => ⟨S1024x100000, .i32⟩
  | 109 => ⟨S1024x100000, .i32⟩
  | 110 => ⟨S1024x100000, .i32⟩
  | 111 => ⟨S1024x100000, .i32⟩
  | 112 => ⟨S1024x100000, .i32⟩
  | 113 => ⟨S_, .i32⟩
  | 114 => ⟨S1024x100000, .i32⟩
  | 115 => ⟨S1024x100000, .i32⟩
  | 116 => ⟨S_, .i32⟩
  | 117 => ⟨S1024x100000, .i32⟩
  | 118 => ⟨S1024x100000, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S_, .i32⟩
  | 126 => ⟨S1024x100000, .i32⟩
  | 127 => ⟨S1024x100000, .i32⟩
  | _ => ⟨S1024x100000, .f32⟩

abbrev hbmTy0_1 (i : Nat) : BufTy := match i % 128 with
  | 0 => ⟨S1024x100000, .i32⟩
  | 1 => ⟨S_, .i32⟩
  | 2 => ⟨S1024x100000, .i32⟩
  | 3 => ⟨S1024x100000, .i32⟩
  | 4 => ⟨S_, .i32⟩
  | 5 => ⟨S1024x100000, .i32⟩
  | 6 => ⟨S1024x100000, .i32⟩
  | 7 => ⟨S1024x100000, .i32⟩
  | 8 => ⟨S1024x100000, .i32⟩
  | 9 => ⟨S1024x100000, .i32⟩
  | 10 => ⟨S_, .i32⟩
  | 11 => ⟨S1024x100000, .i32⟩
  | 12 => ⟨S1024x100000, .i32⟩
  | 13 => ⟨S_, .i32⟩
  | 14 => ⟨S1024x100000, .i32⟩
  | 15 => ⟨S1024x100000, .i32⟩
  | 16 => ⟨S1024x100000, .i32⟩
  | 17 => ⟨S1024x100000, .i32⟩
  | 18 => ⟨S1024x100000, .i32⟩
  | 19 => ⟨S_, .i32⟩
  | 20 => ⟨S1024x100000, .i32⟩
  | 21 => ⟨S1024x100000, .i32⟩
  | 22 => ⟨S_, .i32⟩
  | 23 => ⟨S1024x100000, .i32⟩
  | 24 => ⟨S1024x100000, .i32⟩
  | 25 => ⟨S1024x100000, .i32⟩
  | 26 => ⟨S1024x100000, .i32⟩
  | 27 => ⟨S1024x100000, .i32⟩
  | 28 => ⟨S_, .i32⟩
  | 29 => ⟨S1024x100000, .i32⟩
  | 30 => ⟨S1024x100000, .i32⟩
  | 31 => ⟨S_, .i32⟩
  | 32 => ⟨S1024x100000, .i32⟩
  | 33 => ⟨S1024x100000, .i32⟩
  | 34 => ⟨S1024x100000, .i32⟩
  | 35 => ⟨S1024x100000, .i32⟩
  | 36 => ⟨S1024x100000, .i32⟩
  | 37 => ⟨S1024x100000, .i32⟩
  | 38 => ⟨S1024x100000, .i32⟩
  | 39 => ⟨S1024x100000, .i32⟩
  | 40 => ⟨S_, .i32⟩
  | 41 => ⟨S1024x100000, .i32⟩
  | 42 => ⟨S1024x100000, .i32⟩
  | 43 => ⟨S1024x100000, .i32⟩
  | 44 => ⟨S_, .i32⟩
  | 45 => ⟨S1024x100000, .i32⟩
  | 46 => ⟨S1024x100000, .i32⟩
  | 47 => ⟨S_, .i32⟩
  | 48 => ⟨S1024x100000, .i32⟩
  | 49 => ⟨S1024x100000, .i32⟩
  | 50 => ⟨S1024x100000, .i32⟩
  | 51 => ⟨S1024x100000, .i32⟩
  | 52 => ⟨S1024x100000, .i32⟩
  | 53 => ⟨S_, .i32⟩
  | 54 => ⟨S1024x100000, .i32⟩
  | 55 => ⟨S1024x100000, .i32⟩
  | 56 => ⟨S_, .i32⟩
  | 57 => ⟨S1024x100000, .i32⟩
  | 58 => ⟨S1024x100000, .i32⟩
  | 59 => ⟨S1024x100000, .i32⟩
  | 60 => ⟨S1024x100000, .i32⟩
  | 61 => ⟨S1024x100000, .i32⟩
  | 62 => ⟨S_, .i32⟩
  | 63 => ⟨S1024x100000, .i32⟩
  | 64 => ⟨S1024x100000, .i32⟩
  | 65 => ⟨S_, .i32⟩
  | 66 => ⟨S1024x100000, .i32⟩
  | 67 => ⟨S1024x100000, .i32⟩
  | 68 => ⟨S1024x100000, .i32⟩
  | 69 => ⟨S1024x100000, .i32⟩
  | 70 => ⟨S1024x100000, .i32⟩
  | 71 => ⟨S_, .i32⟩
  | 72 => ⟨S1024x100000, .i32⟩
  | 73 => ⟨S1024x100000, .i32⟩
  | 74 => ⟨S_, .i32⟩
  | 75 => ⟨S1024x100000, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S1024x100000, .i32⟩
  | 83 => ⟨S_, .i32⟩
  | 84 => ⟨S1024x100000, .i32⟩
  | 85 => ⟨S1024x100000, .i32⟩
  | 86 => ⟨S1024x100000, .i32⟩
  | 87 => ⟨S_, .i32⟩
  | 88 => ⟨S1024x100000, .i32⟩
  | 89 => ⟨S1024x100000, .i32⟩
  | 90 => ⟨S_, .i32⟩
  | 91 => ⟨S1024x100000, .i32⟩
  | 92 => ⟨S1024x100000, .i32⟩
  | 93 => ⟨S1024x100000, .i32⟩
  | 94 => ⟨S1024x100000, .i32⟩
  | 95 => ⟨S1024x100000, .i32⟩
  | 96 => ⟨S_, .i32⟩
  | 97 => ⟨S1024x100000, .i32⟩
  | 98 => ⟨S1024x100000, .i32⟩
  | 99 => ⟨S_, .i32⟩
  | 100 => ⟨S1024x100000, .i32⟩
  | 101 => ⟨S1024x100000, .i32⟩
  | 102 => ⟨S1024x100000, .i32⟩
  | 103 => ⟨S1024x100000, .i32⟩
  | 104 => ⟨S1024x100000, .i32⟩
  | 105 => ⟨S_, .i32⟩
  | 106 => ⟨S1024x100000, .i32⟩
  | 107 => ⟨S1024x100000, .i32⟩
  | 108 => ⟨S_, .i32⟩
  | 109 => ⟨S1024x100000, .i32⟩
  | 110 => ⟨S1024x100000, .i32⟩
  | 111 => ⟨S1024x100000, .i32⟩
  | 112 => ⟨S1024x100000, .i32⟩
  | 113 => ⟨S1024x100000, .i32⟩
  | 114 => ⟨S_, .i32⟩
  | 115 => ⟨S1024x100000, .i32⟩
  | 116 => ⟨S1024x100000, .i32⟩
  | 117 => ⟨S_, .i32⟩
  | 118 => ⟨S1024x100000, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S1024x100000, .i32⟩
  | 126 => ⟨S_, .i32⟩
  | 127 => ⟨S1024x100000, .i32⟩
  | _ => ⟨S1024x100000, .f32⟩

abbrev hbmTy0_2 (i : Nat) : BufTy := match i % 128 with
  | 0 => ⟨S1024x100000, .i32⟩
  | 1 => ⟨S1024x100000, .i32⟩
  | 2 => ⟨S_, .i32⟩
  | 3 => ⟨S1024x100000, .i32⟩
  | 4 => ⟨S1024x100000, .i32⟩
  | 5 => ⟨S_, .i32⟩
  | 6 => ⟨S1024x100000, .i32⟩
  | 7 => ⟨S1024x100000, .i32⟩
  | 8 => ⟨S1024x100000, .f32⟩
  | 9 => ⟨S_, .f32⟩
  | 10 => ⟨S1024x100000, .f32⟩
  | 11 => ⟨S1024x100000, .f32⟩
  | 12 => ⟨S1x1, .f32⟩
  | 13 => ⟨S1024x100000, .f32⟩
  | 14 => ⟨S1024x100000, .f32⟩
  | 15 => ⟨S1024x100000, .f32⟩
  | 16 => ⟨S1024x100000, .f32⟩
  | 17 => ⟨S1024x100000, .f32⟩
  | 18 => ⟨S1024x100000, .f32⟩
  | 19 => ⟨S_, .f32⟩
  | 20 => ⟨S1024x100000, .f32⟩
  | 21 => ⟨S1024x100000, .f32⟩
  | 22 => ⟨S1024x100000, .f32⟩
  | 23 => ⟨S1024x100000, .f32⟩
  | 24 => ⟨S1024x100000, .f32⟩
  | 25 => ⟨S1024x100000, .f32⟩
  | 26 => ⟨S1024x100000, .f32⟩
  | 27 => ⟨S_, .f32⟩
  | 28 => ⟨S1024x100000, .f32⟩
  | 29 => ⟨S1024x100000, .f32⟩
  | 30 => ⟨S_, .f32⟩
  | 31 => ⟨S1024, .f32⟩
  | 32 => ⟨S_, .f32⟩
  | 33 => ⟨S1024, .f32⟩
  | 34 => ⟨S1024, .f32⟩
  | 35 => ⟨S1024x1, .f32⟩
  | 36 => ⟨S1024x100000, .f32⟩
  | 37 => ⟨S1024x100000, .f32⟩
  | 38 => ⟨S1024x100000, .f32⟩
  | 39 => ⟨S_, .f32⟩
  | 40 => ⟨S1024, .f32⟩
  | 41 => ⟨S1024x1, .f32⟩
  | 42 => ⟨S1024x100000, .f32⟩
  | 43 => ⟨S1024x100000, .f32⟩
  | _ => ⟨S1024x100000, .f32⟩

abbrev hbmTy (i : Nat) : BufTy := match i / 128 with
  | 0 => hbmTy0_0 i
  | 1 => hbmTy0_1 i
  | 2 => hbmTy0_2 i
  | _ => ⟨S1024x100000, .f32⟩

abbrev bufTy : (tb : Table) → Fin (tcTables nBuf tb) → BufTy
  | .hbm, ⟨i, _⟩ => hbmTy i
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_cst_4 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_cst_6 : Ref sig .tc := ⟨.hbm, 288, rfl⟩
abbrev main_v18 : Ref sig .tc := ⟨.hbm, 289, rfl⟩
abbrev main_v19 : Ref sig .tc := ⟨.hbm, 290, rfl⟩
abbrev main_v20 : Ref sig .tc := ⟨.hbm, 291, rfl⟩
abbrev main_v21 : Ref sig .tc := ⟨.hbm, 292, rfl⟩
abbrev main_v22 : Ref sig .tc := ⟨.hbm, 293, rfl⟩
abbrev main_v23 : Ref sig .tc := ⟨.hbm, 294, rfl⟩
abbrev main_cst_7 : Ref sig .tc := ⟨.hbm, 295, rfl⟩
abbrev main_v24 : Ref sig .tc := ⟨.hbm, 296, rfl⟩
abbrev main_v25 : Ref sig .tc := ⟨.hbm, 297, rfl⟩
abbrev main_v26 : Ref sig .tc := ⟨.hbm, 298, rfl⟩
abbrev main_v27 : Ref sig .tc := ⟨.hbm, 299, rfl⟩

abbrev nD : Nat := 1
abbrev τ : Topo := Topo.v7x

variable {F : FTy → Type} [FloatOps F]
-- ==== Proof.Rolled.lean ====
/-
The first kernel's body written once. The printed body repeats, for each of the 125 row groups of a block, the
same hash, noise and quotient on eight rows; here one row group is a function of its first row, and the body
is that function run down the list of first rows. `Rolled.gen` is definitionally the printed body.
-/
module

public import Idealize.ShloMosaic.Lib.Pipeline
public import Idealize.ShloMosaic.PureOps
public import Idealize.ShloMosaic.PureOps.Ideal

@[expose] public section

noncomputable section

namespace Cert.Rolled

open Idealize.ShloMosaic Idealize.SL.Sem

/-- Eight rows of a block. -/
abbrev Tile : Shape := ⟨2, ![8, 1024]⟩
/-- A block of the logits, transposed. -/
abbrev Block : Shape := ⟨2, ![1000, 1024]⟩

theorem tile_casts : Tile.ShapeCasts Tile := by decide
theorem tile_pos : 0 < Tile.numel := by decide
theorem tile_inb : ∀ a, (![0, 0] : Fin 2 → Nat) a + Tile.size a ≤ Tile.size a := by decide
theorem rows_inb {n : Nat} (h : n + 8 ≤ 1000) : ∀ a, (![n, 0] : Fin 2 → Nat) a + Tile.size a ≤ Block.size a :=
  Fin.forall_fin_two.mpr ⟨h, Nat.le_refl 1024⟩
theorem tile_iota0 : Tile.Iotas .tc 32 [0] := by decide
theorem tile_iota1 : Tile.Iotas .tc 32 [1] := by decide

/-! ## The hash of a tile of counters -/

/-- One round of the hash: add, then rotate the second word by `r` and mix it in (`s` is `32 - r`). -/
def mix {α : Type} (r s : BitVec 32) (a b : IVec Tile 32) (k : IVec Tile 32 → IVec Tile 32 → α) : α :=
  k (addi a b) (xori (addi a b) (ori (shli b (broadcast Tile r)) (shrui b (broadcast Tile s))))

/-- The key words `p`, `q` and the round number `c` added between groups of four rounds. -/
def inject {α : Type} (p q c : BitVec 32) (a b : IVec Tile 32) (k : IVec Tile 32 → IVec Tile 32 → α) : α :=
  k (addi a (broadcast Tile p)) (addi (addi b (broadcast Tile q)) (broadcast Tile c))

def fourA {α : Type} (a b : IVec Tile 32) (k : IVec Tile 32 → IVec Tile 32 → α) : α :=
  mix 13#32 19#32 a b fun a b => mix 15#32 17#32 a b fun a b => mix 26#32 6#32 a b fun a b => mix 6#32 26#32 a b k

def fourB {α : Type} (a b : IVec Tile 32) (k : IVec Tile 32 → IVec Tile 32 → α) : α :=
  mix 17#32 15#32 a b fun a b => mix 29#32 3#32 a b fun a b => mix 16#32 16#32 a b fun a b => mix 24#32 8#32 a b k

/-- The twenty rounds under the key `(0, 42)` at the counter words `(0, n)`, the two output words xored. -/
def hash (n : IVec Tile 32) : IVec Tile 32 :=
  fourA (addi (broadcast Tile 0#32) (broadcast Tile 0#32)) (addi n (broadcast Tile 42#32)) fun a b =>
  inject 42#32 466689008#32 1#32 a b fun a b => fourB a b fun a b =>
  inject 466689008#32 0#32 2#32 a b fun a b => fourA a b fun a b =>
  inject 0#32 42#32 3#32 a b fun a b => fourB a b fun a b =>
  inject 42#32 466689008#32 4#32 a b fun a b => fourA a b fun a b =>
  inject 466689008#32 0#32 5#32 a b fun a b => xori a b

variable {F : FTy → Type} [FloatOps F]

/-- The uniform number of a word: its upper 23 bits as a fraction in `[0, 1)`, at least the least normal number. -/
def unif (b : IVec Tile 32) : FVec F Tile .f32 :=
  maximumf (broadcast Tile (Scalar.ofBits .f32 0x00800000#32))
    (subf (bitcastToFloat .f32 (ori (shrui b (broadcast Tile 9#32)) (broadcast Tile 1065353216#32)))
      (broadcast Tile (Scalar.ofBits .f32 0x3F800000#32)))

/-- The unnormalised weight `exp x / (- log u)` the kernel writes, `c` the constant `log2 e`. -/
def weight (c : F .f32) (x : FVec F Tile .f32) (n : IVec Tile 32) : FVec F Tile .f32 :=
  divf (exp2 (mulf x (broadcast Tile c)))
    (subf (broadcast Tile (Scalar.ofBits .f32 0x00000000#32)) (mulf (log (unif (hash n))) (broadcast Tile c)))

/-- The counters of a tile whose first row is row `n` of the block. -/
def counter (base : IVec Tile 32) (n : Nat) : IVec Tile 32 := addi base (broadcast Tile (BitVec.ofNat 32 n))

/-- Counters of the first tile of block `a`. -/
def base (a : BitVec 32) : IVec Tile 32 :=
  addi (addi (muli (iota .tc Tile 32 [1] tile_iota1) (broadcast Tile 100000#32)) (iota .tc Tile 32 [0] tile_iota0))
    (broadcast Tile (Scalar.muli a 1000#32))

/-! ## The body -/

variable {nD : Nat} {τ : Topo} {sig : RefSig} {Λ : Labels}

/-- The row groups in order, then `k` at the sum of their weights. -/
def tiles (c : F .f32) (bs : IVec Tile 32) (x e : Memref sig .tc .vmem Block .f32)
    (k : FVec F Tile .f32 → Prog (TpuEff nD τ sig (Elt F) Λ .tc) PUnit) :
    (l : List Nat) → (∀ n ∈ l, n + 8 ≤ 1000) → FVec F Tile .f32 → Prog (TpuEff nD τ sig (Elt F) Λ .tc) PUnit
  | [], _, acc => k acc
  | n :: l, h, acc =>
    .op (.load x (Rect.unit (s := Block) ![n, 0] Tile.size (rows_inb (h n List.mem_cons_self))).toLoadRect
      (View.loadsAt_vmem tile_pos)) fun v =>
    .op (.load e (Rect.unit (s := Block) ![n, 0] Tile.size (rows_inb (h n List.mem_cons_self))).toLoadRect
      (View.loadsAt_vmem tile_pos)) fun _ =>
    .op (.store e (Rect.unit (s := Block) ![n, 0] Tile.size (rows_inb (h n List.mem_cons_self)))
      (weight c (shapeCast Tile v tile_casts) (counter bs n)) Finset.univ (View.stores_vmem_bits_univ tile_pos rfl)
      (.inl rfl)) fun _ =>
    tiles c bs x e k l (fun m hm => h m (List.mem_cons_of_mem _ hm))
      (addf acc (weight c (shapeCast Tile v tile_casts) (counter bs n)))

/-- The running column sums: stored at the first point of the grid, added to afterwards. -/
def total (p q : BitVec 1) (s : Memref sig .tc .vmem Tile .f32) (acc : FVec F Tile .f32) :
    Prog (TpuEff nD τ sig (Elt F) Λ .tc) PUnit := do
  if _h : p = 1#1 then do
    let _ ← Prog.lift (.load s (Rect.unit (s := Tile) ![0, 0] Tile.size tile_inb).toLoadRect (View.loadsAt_vmem tile_pos))
    Prog.lift (.store s (Rect.unit (s := Tile) ![0, 0] Tile.size tile_inb) acc Finset.univ
      (View.stores_vmem_bits_univ tile_pos rfl) (.inl rfl))
    pure ⟨⟩
  else do
    pure ⟨⟩
  if _h : q = 1#1 then do
    let v ← Prog.lift (.load s (Rect.unit (s := Tile) ![0, 0] Tile.size tile_inb).toLoadRect (View.loadsAt_vmem tile_pos))
    let _ ← Prog.lift (.load s (Rect.unit (s := Tile) ![0, 0] Tile.size tile_inb).toLoadRect (View.loadsAt_vmem tile_pos))
    Prog.lift (.store s (Rect.unit (s := Tile) ![0, 0] Tile.size tile_inb) (addf (shapeCast Tile v tile_casts) acc) Finset.univ
      (View.stores_vmem_bits_univ tile_pos rfl) (.inl rfl))
    pure ⟨⟩
  else do
    pure ⟨⟩
  pure ⟨⟩

/-- The first rows of the row groups. -/
def firsts : List Nat :=
  [0, 8, 16, 24, 32, 40, 48, 56, 64, 72, 80, 88, 96, 104, 112, 120, 128, 136, 144, 152, 160, 168, 176, 184, 192, 200, 208, 216, 224,
   232, 240, 248, 256, 264, 272, 280, 288, 296, 304, 312, 320, 328, 336, 344, 352, 360, 368, 376, 384, 392, 400, 408, 416, 424, 432,
   440, 448, 456, 464, 472, 480, 488, 496, 504, 512, 520, 528, 536, 544, 552, 560, 568, 576, 584, 592, 600, 608, 616, 624, 632, 640,
   648, 656, 664, 672, 680, 688, 696, 704, 712, 720, 728, 736, 744, 752, 760, 768, 776, 784, 792, 800, 808, 816, 824, 832, 840, 848,
   856, 864, 872, 880, 888, 896, 904, 912, 920, 928, 936, 944, 952, 960, 968, 976, 984, 992]

theorem firsts_le : ∀ n ∈ firsts, n + 8 ≤ 1000 := by decide

/-- The whole body at grid coordinate `a`. -/
def gen (c : F .f32) (a : BitVec 32) (p q : BitVec 1) (x e : Memref sig .tc .vmem Block .f32) (s : Memref sig .tc .vmem Tile .f32) :
    Prog (TpuEff nD τ sig (Elt F) Λ .tc) PUnit :=
  tiles c (base a) x e (fun acc => do total p q s acc; pure ⟨⟩) firsts firsts_le (broadcast Tile (Scalar.ofBits .f32 0x00000000#32))

end Cert.Rolled
-- ==== Proof.KernelIdealBody.lean ====
/-
The printed body of the first kernel is the rolled one.
-/
module

public import proofs.«01_k».proof.KernelIdeal
public import proofs.«01_k».proof.Proof.Rolled

@[expose] public section

set_option maxRecDepth 1000000
set_option maxHeartbeats 0

namespace Cert.KernelIdeal

open Idealize.ShloMosaic Idealize.SL.Sem

variable {F : FTy → Type} [FloatOps F] [Named F] [Facts]

theorem gen_body_eq (i : grid0.Coords) (arg1 : Memref sig .tc .vmem S1000x1024 .f32) (harg1 : arg1.IsWhole)
    (arg2 : Memref sig .tc .vmem S1000x1024 .f32) (harg2 : arg2.IsWhole) (arg3 : Memref sig .tc .vmem S8x1024 .f32)
    (harg3 : arg3.IsWhole) :
    cc0__gen_body (F := F) i arg1 harg1 arg2 harg2 arg3 harg3
      = Rolled.gen (Named.named κ "log2e" 0x3FB8AA3B#32) (BitVec.ofNat 32 (i 0).val) (k0_cond1 i) (k0_cond2 i) arg1 arg2 arg3 := by
  rfl

end Cert.KernelIdeal
-- ==== Proof.RolledRun.lean ====
/-
The run of the compact body: from its three blocks held at known contents it returns with the weights written
over the second block and the column sums left in the third.
-/
module

public import proofs.«01_k».proof.Proof.Rolled
public import Idealize.ShloMosaic.Lib.Memref
public import Idealize.ShloMosaic.Lib.Pipeline.Value
public import Idealize.ShloMosaic.Lib.Tactic

@[expose] public section

noncomputable section

namespace Cert.Rolled

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]
variable {U : Type} [URA U]
local notation "𝕄" => MT nD τ sig Unit (Elt F) ℕ U ℕ

section Rules

variable {defs : Defs nD τ sig (Elt F) Λ} (𝒱 : Variants) (c : Thread nD τ) (E : Set ℕ)
  {sh : Shape} {e : EltTy} {α : Type}

/-- A load from a memref owned at `X` gives `X`'s part on the rectangle. -/
theorem load_owns {Q : α → sProp 𝕄} {m : Memref sig c.2.kind .vmem sh e} {r : Rect sh} {hl : m.view.LoadsAt r.toLoadRect}
    {k : (r.shape.Idx → Elt F e) → Prog (TpuEff nD τ sig (Elt F) Λ c.2) α} {q : PosShare TreeShare} {X : sh.Idx → Elt F e} :
    iprop(owns c m q X ∗ (owns c m q X -∗ wp frame (wpE defs 𝒱 c none) E (k fun x => X (r.emb x)) Q))
      ⊢ (wp frame (wpE defs 𝒱 c none) E (.op (.load m r.toLoadRect hl) k) Q : sProp 𝕄) := by
  unfold owns
  iintro ⟨⟨%f, %hf, H⟩, Hk⟩
  subst hf
  have hS : m.view.setOn r.toLoadRect.set ⊆ m.view.set := View.setOn_subset_set _ _
  iapply (wp_load 𝒱 c none E (hl := hl) hS) $$ H
  iintro H
  iapply Hk
  iexists f
  isplitr; · ipureintro; rfl
  iexact H

/-- A store to a memref owned at `X` overlays the stored values. -/
theorem store_owns {Q : α → sProp 𝕄} {m : Memref sig c.2.kind .vmem sh e} {r : Rect sh} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {X : sh.Idx → Elt F e} :
    iprop(owns c m fullShare X ∗ (owns c m fullShare (r.overlay X w) -∗ wp frame (wpE defs 𝒱 c none) E (k ⟨⟩) Q))
      ⊢ (wp frame (wpE defs 𝒱 c none) E (.op (.store m r w Finset.univ hx hm) k) Q : sProp 𝕄) := by
  unfold owns
  iintro ⟨⟨%f, %hf, H⟩, Hk⟩
  subst hf
  iapply (wp_store 𝒱 c none E (hx := hx) (hm := hm) (S := m.view.set) (View.set_slice_subset _ r)) $$ H
  iintro H
  iapply Hk
  iexists _
  isplitr; swap; · iexact H
  ipureintro
  funext j
  by_cases hj : j ∈ r.set
  · rw [← Rect.map_emb_univ, Finset.mem_map] at hj
    obtain ⟨x, hx, rfl⟩ := hj
    rw [Rect.overlay_emb, View.read_slice_write_emb _ _ _ hx]
  · rw [Rect.overlay_of_not_mem _ _ _ hj,
      View.read_slice_write_of_not_mem _ _ _ _ (by rw [Rect.map_emb_univ]; exact hj)]

end Rules

/-! ## What the body leaves -/

/-- Rows `n … n + 7` of a block. -/
abbrev rows (n : Nat) (h : n + 8 ≤ 1000) : Rect Block := Rect.unit (s := Block) ![n, 0] Tile.size (rows_inb h)

/-- The whole of a tile. -/
abbrev allRows : Rect Tile := Rect.unit (s := Tile) ![0, 0] Tile.size tile_inb

/-- The weights of the row group at row `n` of the block `X`. -/
def payload (cst : F .f32) (bs : IVec Tile 32) (X : Block.Idx → Elt F .f32) (n : Nat) (h : n + 8 ≤ 1000) : FVec F Tile .f32 :=
  weight cst (fun x => X ((rows n h).emb x)) (counter bs n)

/-- The second block after the row groups of `l`. -/
def written (cst : F .f32) (bs : IVec Tile 32) (X : Block.Idx → Elt F .f32) :
    (l : List Nat) → (∀ n ∈ l, n + 8 ≤ 1000) → (Block.Idx → Elt F .f32) → Block.Idx → Elt F .f32
  | [], _, E => E
  | n :: l, h, E => written cst bs X l (fun m hm => h m (List.mem_cons_of_mem _ hm))
      ((rows n (h n List.mem_cons_self)).overlay E (payload cst bs X n (h n List.mem_cons_self)))

/-- The sum of the weights of the row groups of `l`, added to `acc` in order. -/
def summed (cst : F .f32) (bs : IVec Tile 32) (X : Block.Idx → Elt F .f32) :
    (l : List Nat) → (∀ n ∈ l, n + 8 ≤ 1000) → FVec F Tile .f32 → FVec F Tile .f32
  | [], _, acc => acc
  | n :: l, h, acc => summed cst bs X l (fun m hm => h m (List.mem_cons_of_mem _ hm))
      (addf acc (payload cst bs X n (h n List.mem_cons_self)))

/-- The block's column sums by row modulo 8. -/
def sums (cst : F .f32) (a : BitVec 32) (X : Block.Idx → Elt F .f32) : FVec F Tile .f32 :=
  summed cst (base a) X firsts firsts_le (broadcast Tile (Scalar.ofBits .f32 0x00000000#32))

section Run

variable {defs : Defs nD τ sig (Elt F) Λ} (𝒱 : Variants) (d : Dev nD) (E : Set ℕ)

theorem tiles_run (cst : F .f32) (bs : IVec Tile 32) (x e : Memref sig .tc .vmem Block .f32) (X : Block.Idx → Elt F .f32)
    (k : FVec F Tile .f32 → Prog (TpuEff nD τ sig (Elt F) Λ .tc) PUnit) (Q : PUnit → sProp 𝕄) :
    ∀ (l : List Nat) (h : ∀ n ∈ l, n + 8 ≤ 1000) (acc : FVec F Tile .f32) (Y : Block.Idx → Elt F .f32),
    iprop(owns (d : Thread nD τ) x fullShare X ∗ owns (d : Thread nD τ) e fullShare Y ∗
        (iprop(owns (d : Thread nD τ) x fullShare X ∗ owns (d : Thread nD τ) e fullShare (written cst bs X l h Y))
          -∗ wp frame (wpE defs 𝒱 (d : Thread nD τ) none) E (k (summed cst bs X l h acc)) Q))
      ⊢ (wp frame (wpE defs 𝒱 (d : Thread nD τ) none) E (tiles cst bs x e k l h acc) Q : sProp 𝕄)
  | [], h, acc, Y => by
    iintro ⟨Hx, He, Hk⟩
    iapply Hk
    isplitl [Hx]; · iexact Hx
    iexact He
  | n :: l, h, acc, Y => by
    have ih := tiles_run cst bs x e X k Q l (fun m hm => h m (List.mem_cons_of_mem _ hm))
      (addf acc (payload cst bs X n (h n List.mem_cons_self)))
      ((rows n (h n List.mem_cons_self)).overlay Y (payload cst bs X n (h n List.mem_cons_self)))
    unfold tiles written summed
    iintro ⟨Hx, He, Hk⟩
    iapply (load_owns 𝒱 (d : Thread nD τ) E)
    isplitl [Hx]; · iexact Hx
    iintro Hx
    iapply (load_owns 𝒱 (d : Thread nD τ) E)
    isplitl [He]; · iexact He
    iintro He
    rw [shapeCast_self]
    iapply (store_owns 𝒱 (d : Thread nD τ) E)
    isplitl [He]; · iexact He
    iintro He
    iapply ih
    isplitl [Hx]; · iexact Hx
    isplitl [He]; · iexact He
    iexact Hk

theorem emb_all {sh : Shape} {off : Fin sh.rank → ℕ} (hoff : ∀ a, off a = 0) (inb : ∀ a, off a + sh.size a ≤ sh.size a)
    (y : sh.Idx) : (Rect.unit (s := sh) off sh.size inb).emb y = y := by
  funext a
  apply Fin.ext
  show off a + 1 * (y a).val = (y a).val
  rw [hoff a]; omega

theorem overlay_all {sh : Shape} {α : Type} {off : Fin sh.rank → ℕ} (hoff : ∀ a, off a = 0)
    (inb : ∀ a, off a + sh.size a ≤ sh.size a) (X W : sh.Idx → α) :
    (Rect.unit (s := sh) off sh.size inb).overlay X W = W := by
  funext y
  have h := emb_all hoff inb y
  exact (congrArg _ h.symm).trans (Rect.overlay_emb (Rect.unit (s := sh) off sh.size inb) X W y)

theorem read_all {sh : Shape} {α : Type} {off : Fin sh.rank → ℕ} (hoff : ∀ a, off a = 0)
    (inb : ∀ a, off a + sh.size a ≤ sh.size a) (X : sh.Idx → α) :
    (fun y => X ((Rect.unit (s := sh) off sh.size inb).emb y)) = X :=
  funext fun y => congrArg X (emb_all hoff inb y)

theorem zero2 : ∀ a : Fin 2, (![0, 0] : Fin 2 → ℕ) a = 0 := by decide

theorem total_first (q : BitVec 1) (hq : ¬ q = 1#1) (s : Memref sig .tc .vmem Tile .f32) (acc : FVec F Tile .f32) :
    (do total 1#1 q s acc; pure ⟨⟩ : Prog (TpuEff nD τ sig (Elt F) Λ .tc) PUnit)
      = .op (.load s allRows.toLoadRect (View.loadsAt_vmem tile_pos)) fun _ =>
        .op (.store s allRows acc Finset.univ (View.stores_vmem_bits_univ tile_pos rfl) (.inl rfl)) fun _ => .ret ⟨⟩ := by
  unfold total
  rw [dif_pos rfl, dif_neg hq]
  rfl

theorem total_later (p : BitVec 1) (hp : ¬ p = 1#1) (s : Memref sig .tc .vmem Tile .f32) (acc : FVec F Tile .f32) :
    (do total p 1#1 s acc; pure ⟨⟩ : Prog (TpuEff nD τ sig (Elt F) Λ .tc) PUnit)
      = .op (.load s allRows.toLoadRect (View.loadsAt_vmem tile_pos)) fun v =>
        .op (.load s allRows.toLoadRect (View.loadsAt_vmem tile_pos)) fun _ =>
        .op (.store s allRows (addf (shapeCast Tile v tile_casts) acc) Finset.univ (View.stores_vmem_bits_univ tile_pos rfl)
          (.inl rfl)) fun _ => .ret ⟨⟩ := by
  unfold total
  rw [dif_neg hp, dif_pos rfl]
  rfl

/-- At the first point the body leaves the block's column sums, whatever was there. -/
theorem gen_run_first (cst : F .f32) (a : BitVec 32) (q : BitVec 1) (hq : ¬ q = 1#1) (x e : Memref sig .tc .vmem Block .f32)
    (s : Memref sig .tc .vmem Tile .f32) (X Y : Block.Idx → Elt F .f32) (S : Tile.Idx → Elt F .f32) (Q : PUnit → sProp 𝕄) :
    iprop(owns (d : Thread nD τ) x fullShare X ∗ owns (d : Thread nD τ) e fullShare Y ∗ owns (d : Thread nD τ) s fullShare S ∗
        (iprop(owns (d : Thread nD τ) x fullShare X
            ∗ owns (d : Thread nD τ) e fullShare (written cst (base a) X firsts firsts_le Y)
            ∗ owns (d : Thread nD τ) s fullShare (sums cst a X)) -∗ Q ⟨⟩))
      ⊢ (wp frame (wpE defs 𝒱 (d : Thread nD τ) none) E (gen cst a 1#1 q x e s) Q : sProp 𝕄) := by
  unfold gen
  iintro ⟨Hx, He, Hs, Hk⟩
  iapply (tiles_run 𝒱 d E)
  isplitl [Hx]; · iexact Hx
  isplitl [He]; · iexact He
  iintro ⟨Hx, He⟩
  dsimp only
  rw [total_first q hq]
  iapply (load_owns 𝒱 (d : Thread nD τ) E)
  isplitl [Hs]; · iexact Hs
  iintro Hs
  iapply (store_owns 𝒱 (d : Thread nD τ) E)
  isplitl [Hs]; · iexact Hs
  rw [overlay_all zero2]
  iintro Hs
  rw [wp_ret]
  imodintro
  iapply Hk
  isplitl [Hx]; · iexact Hx
  isplitl [He]; · iexact He
  iexact Hs

/-- At a later point the body adds the block's column sums to what was there. -/
theorem gen_run_later (cst : F .f32) (a : BitVec 32) (p : BitVec 1) (hp : ¬ p = 1#1) (x e : Memref sig .tc .vmem Block .f32)
    (s : Memref sig .tc .vmem Tile .f32) (X Y : Block.Idx → Elt F .f32) (S : Tile.Idx → Elt F .f32) (Q : PUnit → sProp 𝕄) :
    iprop(owns (d : Thread nD τ) x fullShare X ∗ owns (d : Thread nD τ) e fullShare Y ∗ owns (d : Thread nD τ) s fullShare S ∗
        (iprop(owns (d : Thread nD τ) x fullShare X
            ∗ owns (d : Thread nD τ) e fullShare (written cst (base a) X firsts firsts_le Y)
            ∗ owns (d : Thread nD τ) s fullShare (addf S (sums cst a X) : FVec F Tile .f32)) -∗ Q ⟨⟩))
      ⊢ (wp frame (wpE defs 𝒱 (d : Thread nD τ) none) E (gen cst a p 1#1 x e s) Q : sProp 𝕄) := by
  unfold gen
  iintro ⟨Hx, He, Hs, Hk⟩
  iapply (tiles_run 𝒱 d E)
  isplitl [Hx]; · iexact Hx
  isplitl [He]; · iexact He
  iintro ⟨Hx, He⟩
  dsimp only
  rw [total_later p hp]
  iapply (load_owns 𝒱 (d : Thread nD τ) E)
  isplitl [Hs]; · iexact Hs
  iintro Hs
  iapply (load_owns 𝒱 (d : Thread nD τ) E)
  isplitl [Hs]; · iexact Hs
  iintro Hs
  iapply (store_owns 𝒱 (d : Thread nD τ) E)
  isplitl [Hs]; · iexact Hs
  rw [overlay_all zero2, shapeCast_self, read_all zero2]
  iintro Hs
  rw [wp_ret]
  imodintro
  iapply Hk
  isplitl [Hx]; · iexact Hx
  isplitl [He]; · iexact He
  iexact Hs

end Run

/-! ## The second body -/

/-- A block of the weights, transposed, as the second kernel takes it. -/
abbrev Wide : Shape := ⟨2, ![2000, 1024]⟩
abbrev Lanes : Shape := ⟨1, ![1024]⟩
abbrev Line : Shape := ⟨2, ![1, 1024]⟩

theorem wide_pos : 0 < Wide.numel := by decide
theorem wide_inb : ∀ a, (![0, 0] : Fin 2 → Nat) a + Wide.size a ≤ Wide.size a := by decide
theorem wide_casts : Wide.ShapeCasts Wide := by decide
theorem lanes_casts : Lanes.ShapeCasts Line := by decide
theorem tile_reduces : Tile.Reduces [0] Lanes := by decide
theorem line_broadcasts : Line.Broadcasts Wide := by decide

/-- One over each column's sum. -/
def inverse (S : FVec F Tile .f32) : FVec F Line .f32 :=
  divf (broadcast Line (Scalar.ofBits .f32 0x3F800000#32))
    (shapeCast Line (multiReduction .add [0] Lanes S 0x00000000#32 tile_reduces (.inl rfl) rfl) lanes_casts)

/-- The weights over their column's sum. -/
def scaled (X : FVec F Wide .f32) (S : FVec F Tile .f32) : FVec F Wide .f32 :=
  mulf X (broadcastTo Wide (inverse S) line_broadcasts)

/-- The second body. -/
def scale (x : Memref sig .tc .vmem Wide .f32) (s : Memref sig .tc .vmem Tile .f32) (o : Memref sig .tc .vmem Wide .f32) :
    Prog (TpuEff nD τ sig (Elt F) Λ .tc) PUnit :=
  .op (.load s allRows.toLoadRect (View.loadsAt_vmem tile_pos)) fun v =>
  .op (.load x (Rect.unit (s := Wide) ![0, 0] Wide.size wide_inb).toLoadRect (View.loadsAt_vmem wide_pos)) fun w =>
  .op (.load o (Rect.unit (s := Wide) ![0, 0] Wide.size wide_inb).toLoadRect (View.loadsAt_vmem wide_pos)) fun _ =>
  .op (.store o (Rect.unit (s := Wide) ![0, 0] Wide.size wide_inb)
    (scaled (shapeCast Wide w wide_casts) (shapeCast Tile v tile_casts)) Finset.univ (View.stores_vmem_bits_univ wide_pos rfl)
    (.inl rfl)) fun _ => .ret ⟨⟩

theorem scale_run {defs : Defs nD τ sig (Elt F) Λ} (𝒱 : Variants) (d : Dev nD) (E : Set ℕ)
    (x : Memref sig .tc .vmem Wide .f32) (s : Memref sig .tc .vmem Tile .f32) (o : Memref sig .tc .vmem Wide .f32)
    (X Y : Wide.Idx → Elt F .f32) (S : Tile.Idx → Elt F .f32) (Q : PUnit → sProp 𝕄) :
    iprop(owns (d : Thread nD τ) x fullShare X ∗ owns (d : Thread nD τ) s fullShare S ∗ owns (d : Thread nD τ) o fullShare Y ∗
        (iprop(owns (d : Thread nD τ) x fullShare X ∗ owns (d : Thread nD τ) s fullShare S
            ∗ owns (d : Thread nD τ) o fullShare (scaled X S : FVec F Wide .f32)) -∗ Q ⟨⟩))
      ⊢ (wp frame (wpE defs 𝒱 (d : Thread nD τ) none) E (scale x s o) Q : sProp 𝕄) := by
  unfold scale
  iintro ⟨Hx, Hs, Ho, Hk⟩
  iapply (load_owns 𝒱 (d : Thread nD τ) E)
  isplitl [Hs]; · iexact Hs
  iintro Hs
  iapply (load_owns 𝒱 (d : Thread nD τ) E)
  isplitl [Hx]; · iexact Hx
  iintro Hx
  iapply (load_owns 𝒱 (d : Thread nD τ) E)
  isplitl [Ho]; · iexact Ho
  iintro Ho
  iapply (store_owns 𝒱 (d : Thread nD τ) E)
  isplitl [Ho]; · iexact Ho
  rw [overlay_all zero2, shapeCast_self, shapeCast_self, read_all zero2, read_all zero2]
  iintro Ho
  rw [wp_ret]
  imodintro
  iapply Hk
  isplitl [Hx]; · iexact Hx
  isplitl [Hs]; · iexact Hs
  iexact Ho

end Cert.Rolled
-- ==== Proof.RolledValue.lean ====
/-
The compact body's results element by element: every element of the weights is one scalar function of the logit
and of the element's counter, and so are the terms of the column sums.
-/
module

public import proofs.«01_k».proof.Proof.RolledRun

@[expose] public section

noncomputable section

namespace Cert.Rolled

open Idealize.ShloMosaic Idealize.SL.Sem

/-! ## The hash of one word -/

def mix1 {α : Type} (r s : Nat) (a b : BitVec 32) (k : BitVec 32 → BitVec 32 → α) : α :=
  k (a + b) ((a + b) ^^^ (b <<< r ||| b >>> s))

def inject1 {α : Type} (p q c : BitVec 32) (a b : BitVec 32) (k : BitVec 32 → BitVec 32 → α) : α :=
  k (a + p) (b + q + c)

def fourA1 {α : Type} (a b : BitVec 32) (k : BitVec 32 → BitVec 32 → α) : α :=
  mix1 13 19 a b fun a b => mix1 15 17 a b fun a b => mix1 26 6 a b fun a b => mix1 6 26 a b k

def fourB1 {α : Type} (a b : BitVec 32) (k : BitVec 32 → BitVec 32 → α) : α :=
  mix1 17 15 a b fun a b => mix1 29 3 a b fun a b => mix1 16 16 a b fun a b => mix1 24 8 a b k

/-- The hash of the counter words `(0, n)` under the key `(0, 42)`. -/
def hash1 (n : BitVec 32) : BitVec 32 :=
  fourA1 (0#32 + 0#32) (n + 42#32) fun a b =>
  inject1 42#32 466689008#32 1#32 a b fun a b => fourB1 a b fun a b =>
  inject1 466689008#32 0#32 2#32 a b fun a b => fourA1 a b fun a b =>
  inject1 0#32 42#32 3#32 a b fun a b => fourB1 a b fun a b =>
  inject1 42#32 466689008#32 4#32 a b fun a b => fourA1 a b fun a b =>
  inject1 466689008#32 0#32 5#32 a b fun a b => a ^^^ b

/-- The word of a fraction's bits under the exponent of one. -/
def fraction1 (b : BitVec 32) : BitVec 32 := b >>> 9 ||| 1065353216#32

theorem shl_lane (x : BitVec 32) (r : Nat) (h : r < 32) : IntOp.shli .vector x (BitVec.ofNat 32 r) = x <<< r := by
  have e : (BitVec.ofNat 32 r).toNat = r := by rw [BitVec.toNat_ofNat]; exact Nat.mod_eq_of_lt (by omega)
  unfold IntOp.shli
  rw [if_pos (by rw [e]; exact h), BitVec.shiftLeft_eq', e]

theorem shr_lane (x : BitVec 32) (r : Nat) (h : r < 32) : IntOp.shrui .vector x (BitVec.ofNat 32 r) = x >>> r := by
  have e : (BitVec.ofNat 32 r).toNat = r := by rw [BitVec.toNat_ofNat]; exact Nat.mod_eq_of_lt (by omega)
  unfold IntOp.shrui
  rw [if_pos (by rw [e]; exact h), BitVec.ushiftRight_eq', e]

theorem mix_at (i : Tile.Idx) {r s : Nat} (hr : r < 32) (hs : s < 32) {a b : IVec Tile 32} {a' b' : BitVec 32}
    (ha : a i = a') (hb : b i = b') {k : IVec Tile 32 → IVec Tile 32 → IVec Tile 32} {k' : BitVec 32 → BitVec 32 → BitVec 32}
    (hk : ∀ a b, k a b i = k' (a i) (b i)) :
    mix (BitVec.ofNat 32 r) (BitVec.ofNat 32 s) a b k i = mix1 r s a' b' k' := by
  subst ha hb
  unfold mix mix1
  rw [hk]
  show k' (a i + b i) ((a i + b i) ^^^ (IntOp.shli .vector (b i) (BitVec.ofNat 32 r) ||| IntOp.shrui .vector (b i) (BitVec.ofNat 32 s))) = _
  rw [shl_lane _ _ hr, shr_lane _ _ hs]

theorem inject_at (i : Tile.Idx) (p q c : BitVec 32) (a b : IVec Tile 32)
    {k : IVec Tile 32 → IVec Tile 32 → IVec Tile 32} {k' : BitVec 32 → BitVec 32 → BitVec 32}
    (hk : ∀ a b, k a b i = k' (a i) (b i)) : inject p q c a b k i = inject1 p q c (a i) (b i) k' := by
  unfold inject inject1
  rw [hk]
  rfl

theorem fourA_at (i : Tile.Idx) (a b : IVec Tile 32)
    {k : IVec Tile 32 → IVec Tile 32 → IVec Tile 32} {k' : BitVec 32 → BitVec 32 → BitVec 32}
    (hk : ∀ a b, k a b i = k' (a i) (b i)) : fourA a b k i = fourA1 (a i) (b i) k' :=
  mix_at i (by decide) (by decide) rfl rfl fun _ _ => mix_at i (by decide) (by decide) rfl rfl fun _ _ =>
    mix_at i (by decide) (by decide) rfl rfl fun _ _ => mix_at i (by decide) (by decide) rfl rfl hk

theorem fourB_at (i : Tile.Idx) (a b : IVec Tile 32)
    {k : IVec Tile 32 → IVec Tile 32 → IVec Tile 32} {k' : BitVec 32 → BitVec 32 → BitVec 32}
    (hk : ∀ a b, k a b i = k' (a i) (b i)) : fourB a b k i = fourB1 (a i) (b i) k' :=
  mix_at i (by decide) (by decide) rfl rfl fun _ _ => mix_at i (by decide) (by decide) rfl rfl fun _ _ =>
    mix_at i (by decide) (by decide) rfl rfl fun _ _ => mix_at i (by decide) (by decide) rfl rfl hk

theorem hash_at (n : IVec Tile 32) (i : Tile.Idx) : hash n i = hash1 (n i) := by
  unfold hash hash1
  exact fourA_at i _ _ fun _ _ => inject_at i _ _ _ _ _ fun _ _ => fourB_at i _ _ fun _ _ =>
    inject_at i _ _ _ _ _ fun _ _ => fourA_at i _ _ fun _ _ => inject_at i _ _ _ _ _ fun _ _ => fourB_at i _ _ fun _ _ =>
    inject_at i _ _ _ _ _ fun _ _ => fourA_at i _ _ fun _ _ => inject_at i _ _ _ _ _ fun _ _ => rfl

/-! ## One weight -/

variable {F : FTy → Type} [FloatOps F]

/-- The uniform number of a word. -/
def unif1 (b : BitVec 32) : F .f32 :=
  FloatOps.maximumf (Scalar.ofBits .f32 0x00800000#32)
    (FloatOps.subf (FloatOps.ofBits .f32 (fraction1 b)) (Scalar.ofBits .f32 0x3F800000#32))

/-- The weight of a logit at a counter. -/
def weight1 (c x : F .f32) (n : BitVec 32) : F .f32 :=
  FloatOps.divf (FloatOps.exp2 (FloatOps.mulf x c))
    (FloatOps.subf (Scalar.ofBits .f32 0x00000000#32) (FloatOps.mulf (FloatOps.log (unif1 (hash1 n))) c))

theorem unif_at (b : IVec Tile 32) (i : Tile.Idx) : (unif b : FVec F Tile .f32) i = unif1 (b i) := by
  have h : ori (shrui b (broadcast Tile 9#32)) (broadcast Tile 1065353216#32) i = fraction1 (b i) := by
    show IntOp.shrui .vector (b i) (BitVec.ofNat 32 9) ||| _ = _
    rw [shr_lane _ _ (by decide)]; rfl
  unfold unif unif1
  rw [← h]
  rfl

theorem weight_at (c : F .f32) (x : FVec F Tile .f32) (n : IVec Tile 32) (i : Tile.Idx) :
    weight c x n i = weight1 c (x i) (n i) := by
  have h := unif_at (F := F) (hash n) i
  rw [hash_at] at h
  unfold weight1
  rw [← h]
  rfl

/-! ## The whole block -/

/-- The counter of element `y` of block `a`. -/
def count (a : BitVec 32) (y : Block.Idx) : BitVec 32 :=
  BitVec.ofNat 32 (y 1).val * 100000#32 + BitVec.ofNat 32 (y 0).val + a * 1000#32

/-- The weights of block `a` with logits `X`. -/
def weights (c : F .f32) (a : BitVec 32) (X : Block.Idx → Elt F .f32) : Block.Idx → Elt F .f32 :=
  fun y => weight1 (F := F) c (X y) (count a y)

theorem payload_at (c : F .f32) (a : BitVec 32) (X : Block.Idx → Elt F .f32) (n : Nat) (h : n + 8 ≤ 1000) (i : Tile.Idx) :
    payload c (base a) X n h i = weights c a X ((rows n h).emb i) := by
  unfold payload weights
  rw [weight_at]
  congr 1
  have h0 : (((rows n h).emb i) 0).val = n + (i 0).val := by
    show n + 1 * (i 0).val = _; omega
  have h1 : (((rows n h).emb i) 1).val = (i 1).val := by
    show 0 + 1 * (i 1).val = _; omega
  unfold count
  rw [h0, h1]
  show BitVec.ofNat 32 (0 * 1024 + (i 1).val) * 100000#32 + BitVec.ofNat 32 (0 * 8 + (i 0).val) + a * 1000#32 + BitVec.ofNat 32 n = _
  rw [Nat.zero_add, Nat.zero_add, BitVec.ofNat_add]
  ac_rfl

theorem written_at (c : F .f32) (a : BitVec 32) (X : Block.Idx → Elt F .f32) (y : Block.Idx) :
    ∀ (l : List Nat) (h : ∀ n ∈ l, n + 8 ≤ 1000) (Y : Block.Idx → Elt F .f32),
      Y y = weights c a X y ∨ (∃ n ∈ l, n ≤ (y 0).val ∧ (y 0).val < n + 8) → written c (base a) X l h Y y = weights c a X y
  | [], _, Y, hy => by
    rcases hy with hy | ⟨n, hn, -⟩
    · exact hy
    · exact absurd hn List.not_mem_nil
  | n :: l, h, Y, hy => by
    unfold written
    apply written_at c a X y l
    by_cases hm : y ∈ (rows n (h n List.mem_cons_self)).set
    · left
      rw [← Rect.map_emb_univ, Finset.mem_map] at hm
      obtain ⟨i, -, rfl⟩ := hm
      rw [Rect.overlay_emb, payload_at]
    · rcases hy with hy | ⟨m, hl, hm1, hm2⟩
      · left; rw [Rect.overlay_of_not_mem _ _ _ hm]; exact hy
      · rcases List.mem_cons.1 hl with rfl | hl
        · exfalso; apply hm
          rw [← Rect.map_emb_univ, Finset.mem_map]
          refine ⟨fun b => ⟨(y b).val - (![m, 0] : Fin 2 → ℕ) b, ?_⟩, Finset.mem_univ _, ?_⟩
          · fin_cases b
            · show (y 0).val - m < 8; omega
            · show (y 1).val - 0 < 1024; have := (y 1).isLt; exact this
          · funext b; apply Fin.ext
            fin_cases b
            · show m + 1 * ((y 0).val - m) = (y 0).val; omega
            · show 0 + 1 * ((y 1).val - 0) = (y 1).val; omega
        · exact .inr ⟨m, hl, hm1, hm2⟩

theorem firsts_eq : firsts = (List.range 125).map (8 * ·) := by decide

/-- The row groups cover the block, so its contents before do not matter. -/
theorem written_firsts (c : F .f32) (a : BitVec 32) (X Y : Block.Idx → Elt F .f32) :
    written c (base a) X firsts firsts_le Y = weights c a X := by
  funext y
  apply written_at
  right
  have hy : (y 0).val < 1000 := (y 0).isLt
  refine ⟨8 * ((y 0).val / 8), ?_, by omega, by omega⟩
  rw [firsts_eq]
  exact List.mem_map.2 ⟨_, List.mem_range.2 (by omega), rfl⟩

end Cert.Rolled
-- ==== Proof.KernelIdealData.lean ====
/-
What the two kernels find and leave at each grid point, and the proof that their bodies do it.
-/
module

public import proofs.«01_k».proof.Proof.KernelIdealBody
public import proofs.«01_k».proof.Proof.RolledValue
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.FrameTail
public import Idealize.ShloMosaic.Lib.Tactic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipelines' rounds, beside the transfers' counters. -/
abbrev UU : Type := UR sig nD τ × Counters

local notation "𝕄" => MT nD τ sig Unit (Elt F) ℕ UU ℕ

/-- The scale of the exponential and of the logarithm. -/
abbrev cst : F .f32 := Named.named κ "log2e" 0x3FB8AA3B#32

/-! ## The grid -/

theorem coords0 (t : Fin grid0.N) : (grid0.coords t 0).val = t.val := by
  have h : ∀ t : Fin grid0.N, (grid0.coords t 0).val = t.val := by decide +kernel
  exact h t

theorem cond_first (i : grid0.Coords) (h : (i 0).val = 0) : k0_cond1 i = 1#1 ∧ ¬ k0_cond2 i = 1#1 := by
  unfold k0_cond1 k0_cond2
  rw [h]
  decide

theorem cond_later (i : grid0.Coords) (h : (i 0).val ≠ 0) : ¬ k0_cond1 i = 1#1 ∧ k0_cond2 i = 1#1 := by
  have key : ∀ n : Fin 100, n.val ≠ 0 →
      ¬ (Scalar.cmpi .ne (Scalar.extui (Scalar.cmpi .eq (BitVec.ofNat 32 n.val) 0#32) : BitVec 32) 0#32 : BitVec 1) = 1#1
        ∧ (Scalar.cmpi .ne (Scalar.extui (Scalar.cmpi .ne (BitVec.ofNat 32 n.val) 0#32) : BitVec 32) 0#32 : BitVec 1) = 1#1 := by
    decide
  exact key (i 0) h

theorem live0 (i : grid0.Coords) : cfg0.idle 2 i = false := by
  show (!(k0_cond1 i == 1#1) && !(k0_cond2 i == 1#1)) = false
  by_cases h : (i 0).val = 0
  · rw [(cond_first i h).1]; rfl
  · rw [(cond_later i h).2]; rw [Bool.and_eq_false_iff]; right; rfl

/-! ## The first kernel's data -/

section First

variable (c : Dev nD) (V : Valuation τ sig (Elt F))

/-- The block of logits point `t` fetches. -/
def xblk (t : Fin cfg0.N) : Rolled.Block.Idx → Elt F .f32 :=
  ((cfg0.win 0).blk t).view.read (Elt F) (V (Proc.devRef .tc (Pipeline.arrRef spec0 0)))

/-- The grid coordinate as the body takes it. -/
abbrev word (t : Fin cfg0.N) : BitVec 32 := BitVec.ofNat 32 (grid0.coords t 0).val

/-- The column sums of point `t`'s block. -/
def part (t : Fin cfg0.N) : FVec F Rolled.Tile .f32 := Rolled.sums (cst (F := F)) (word t) (xblk V t)

/-- The column sums of the blocks up to point `t`. -/
def upto : ℕ → FVec F Rolled.Tile .f32
  | 0 => part V ⟨0, by decide⟩
  | n + 1 => if h : n + 1 < cfg0.N then addf (upto n) (part V ⟨n + 1, h⟩) else upto n

def dat0 : Dat τ (Elt F) Unit ℕ UU ℕ cfg0 c where
  A w := V (Proc.devRef .tc (Pipeline.arrRef spec0 w))
  after w t := match w with
    | ⟨0, _⟩ => xblk V t
    | ⟨1, _⟩ => Rolled.weights (F := F) (cst (F := F)) (word t) (xblk V t)
    | ⟨2, _⟩ => upto V t.val
  Φ _ := Pipeline.scopedRest (Ix := Unit) (Name := ℕ) (U := UU) (Lvl := ℕ) (Val := Elt F) spec0 c
  q _ := fullShare
  owed _ := 0

theorem before0_0 (t : Fin cfg0.N) (d) : (dat0 c V).before 0 t d = xblk V t := by
  rw [Dat.before_fetched _ 0 t (fetch0_0 t) d]
  rfl

theorem before0_2 (t : Fin cfg0.N) (ht : t.val ≠ 0) (d) : (dat0 c V).before 2 t d = upto V (t.val - 1) := by
  rw [Dat.before_out_kept _ 2 rfl t ht (by
    rw [Bool.eq_false_iff]
    intro h
    have h' := (flush0_2 _).1 h
    have hN : t.val < 100 := t.isLt
    dsimp only at h'
    omega) live0 (fun _ _ => rfl) d]
  rfl

theorem defs_row0 (t : Fin cfg0.N) : defs₀ (F := F) .tc cfg0.body (cfg0.bodyArgs t (cfg0.slots t)) = Gen.bodyAt0 t := by
  unfold defs₀; rw [Defs.onTc_tc]

theorem upto_later (t : Fin cfg0.N) (ht : t.val ≠ 0) : upto V t.val = addf (upto V (t.val - 1)) (part V t) := by
  obtain ⟨n, hn⟩ := t
  cases n with
  | zero => exact absurd rfl ht
  | succ n =>
    show upto V (n + 1) = _
    rw [upto, dif_pos hn]
    rfl

theorem body0 : BodyObligation (dat0 c V) (defs₀ (F := F)) Variants.none () Set.univ := fun t => by
  rw [bigSep_W0, bigSep_W0, defs_row0]
  rw [show cfg0.idle 2 (cfg0.grid.coords t) = false from live0 _]
  rw [show (dat0 c V).Φ t.succ = (dat0 c V).Φ t.castSucc from rfl,
    show (dat0 c V).owesAt () t.succ = (dat0 c V).owesAt () t.castSucc from rfl]
  dsimp only
  unfold Gen.bodyAt0
  rw [gen_body_eq]
  iintro ⟨HΦ, HO, ⟨%d0, H0⟩, ⟨%d1, H1⟩, ⟨%d2, H2⟩⟩
  rw [before0_0]
  by_cases ht : t.val = 0
  · have hc := cond_first (grid0.coords t) ((coords0 t).trans ht)
    rw [hc.1]
    iapply (Rolled.gen_run_first Variants.none c Set.univ _ _ _ hc.2)
    isplitl [H0]; · iexact H0
    isplitl [H1]; · iexact H1
    isplitl [H2]; · iexact H2
    rw [Rolled.written_firsts]
    iintro ⟨H0, H1, H2⟩
    isplitl [HΦ]; · iexact HΦ
    isplitl [HO]; · iexact HO
    isplitl [H0]; · iexact H0
    isplitl [H1]; · iexact H1
    have e : (dat0 c V).after 2 t = Rolled.sums (cst (F := F)) (word t) (xblk V t) := by
      obtain rfl : t = ⟨0, by decide⟩ := Fin.ext ht
      rfl
    rw [e]
    iexact H2
  · have hc := cond_later (grid0.coords t) (fun h => ht ((coords0 t).symm.trans h))
    rw [hc.2, before0_2 c V t ht]
    iapply (Rolled.gen_run_later Variants.none c Set.univ _ _ _ hc.1)
    isplitl [H0]; · iexact H0
    isplitl [H1]; · iexact H1
    isplitl [H2]; · iexact H2
    rw [Rolled.written_firsts]
    iintro ⟨H0, H1, H2⟩
    isplitl [HΦ]; · iexact HΦ
    isplitl [HO]; · iexact HO
    isplitl [H0]; · iexact H0
    isplitl [H1]; · iexact H1
    rw [show (dat0 c V).after 2 t = _ from upto_later V t ht]
    iexact H2

end First

/-! ## The second kernel's data -/

section Second

variable (c : Dev nD) (V : Valuation τ sig (Elt F))

/-- The block of weights point `t` fetches. -/
def wblk (t : Fin cfg1.N) : Rolled.Wide.Idx → Elt F .f32 :=
  ((cfg1.win 0).blk t).view.read (Elt F) (V (Proc.devRef .tc (Pipeline.arrRef spec1 0)))

/-- The column sums point `t` finds. -/
def sblk (t : Fin cfg1.N) : Rolled.Tile.Idx → Elt F .f32 :=
  ((cfg1.win 1).blk t).view.read (Elt F) (V (Proc.devRef .tc (Pipeline.arrRef spec1 1)))

def dat1 : Dat τ (Elt F) Unit ℕ UU ℕ cfg1 c where
  A w := V (Proc.devRef .tc (Pipeline.arrRef spec1 w))
  after w t := match w with
    | ⟨0, _⟩ => wblk V t
    | ⟨1, _⟩ => sblk V t
    | ⟨2, _⟩ => Rolled.scaled (F := F) (wblk V t) (sblk V t)
  Φ _ := Pipeline.scopedRest (Ix := Unit) (Name := ℕ) (U := UU) (Lvl := ℕ) (Val := Elt F) spec1 c
  q _ := fullShare
  owed _ := 0

theorem before1_0 (t : Fin cfg1.N) (d) : (dat1 c V).before 0 t d = wblk V t := by
  rw [Dat.before_fetched _ 0 t (fetch1_0 t) d]
  rfl

theorem before1_1 (t : Fin cfg1.N) (d) : (dat1 c V).before 1 t d = sblk V t := by
  rw [Dat.before_in_eq_fetched _ 1 rfl (fun _ => rfl) (fun _ _ _ => rfl) (fun _ => rfl) t d]
  rfl

theorem defs_row1 (t : Fin cfg1.N) : defs₀ (F := F) .tc cfg1.body (cfg1.bodyArgs t (cfg1.slots t)) = Gen.bodyAt1 t := by
  unfold defs₀; rw [Defs.onTc_tc]

theorem scale_body_eq (i : grid1.Coords) (arg1 : Memref sig .tc .vmem S2000x1024 .f32) (harg1 : arg1.IsWhole)
    (arg2 : Memref sig .tc .vmem S8x1024 .f32) (harg2 : arg2.IsWhole) (arg3 : Memref sig .tc .vmem S2000x1024 .f32)
    (harg3 : arg3.IsWhole) :
    cc1__scale_body (F := F) i arg1 harg1 arg2 harg2 arg3 harg3 = Rolled.scale arg1 arg2 arg3 := by
  rfl

theorem body1 : BodyObligation (dat1 c V) (defs₀ (F := F)) Variants.none () Set.univ := fun t => by
  rw [bigSep_W1, bigSep_W1, defs_row1]
  rw [show (dat1 c V).Φ t.succ = (dat1 c V).Φ t.castSucc from rfl,
    show (dat1 c V).owesAt () t.succ = (dat1 c V).owesAt () t.castSucc from rfl]
  dsimp only
  unfold Gen.bodyAt1
  rw [scale_body_eq]
  iintro ⟨HΦ, HO, ⟨%d0, H0⟩, ⟨%d1, H1⟩, ⟨%d2, H2⟩⟩
  rw [before1_0, before1_1]
  iapply (Rolled.scale_run Variants.none c Set.univ)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

end Second

end Cert.KernelIdeal.Run
-- ==== Proof.KernelIdealRun.lean ====
/-
The program's run: the transpose, the two kernels, the transpose back. Every fair run ends with the argument as
launched, the result at what the chain below computes, and every semaphore at zero.
-/
module

public import proofs.«01_k».proof.Proof.KernelIdealData
public import proofs.«01_k».proof.Proof.Gen.KernelIdeal.Regions

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

variable (m : (ℓ : Loc nD τ sig) → Buf (Elt F) ℓ)

/-! ## The buffers between the items -/

/-- After the first kernel, -/
def W2 (c : Dev nD) : Valuation τ sig (Elt F) := Pipeline.afterRegion (dat0 c (V1 m c)) (V1 m c)
/-- after the second, -/
def W3 (c : Dev nD) : Valuation τ sig (Elt F) := Pipeline.afterRegion (dat1 c (W2 m c)) (W2 m c)
/-- and at the end. -/
def W4 (c : Dev nD) : Valuation τ sig (Elt F) := StableHlo.after hostOps2 (W3 m c)

/-- The proof data of both kernels. -/
def dats : (p : Fin 2) → (c : Dev nD) → Dat τ (Elt F) Unit ℕ UU ℕ (cfgs p) c
  | ⟨0, _⟩ => fun c => dat0 c (V1 m c)
  | ⟨1, _⟩ => fun c => dat1 c (W2 m c)

/-- What rides beside the buffers: the core's dues, none. -/
abbrev R (c : Dev nD) : sProp 𝕄 := iprop(∃ W, owes (c : Thread nD τ) (0 : CellTallies nD τ sig Unit) W)

set_option backward.isDefEq.respectTransparency.types false in
/-- A kernel entered with the unscoped buffers at `V` and left with them at `V'`: the arrays split out at the entry and
    put back at the exit. -/
def region (p : Fin 2) (kit : Pipeline.LaunchFacts (nD := nD) (τ := τ) cfgs p)
    (V V' : Dev nD → Valuation τ sig (Elt F))
    (hbody : ∀ c, BodyObligation (dats m p c) (defs₀ (F := F)) Variants.none () Set.univ)
    (hA : ∀ c w, (dats m p c).A w = V c (Proc.devRef .tc (Pipeline.arrRef (cfgs p).spec w)))
    (hq : ∀ c w, (dats m p c).q w = fullShare)
    (howed : ∀ c t, (dats m p c).owed t = 0)
    (hΦ : ∀ c t, (dats m p c).Φ t = Pipeline.scopedRest (Ix := Unit) (Name := ℕ) (U := UU) (Lvl := ℕ) (Val := Elt F) (cfgs p).spec c)
    (hrec : ∀ c, (dats m p c).recorded 0 = Set.univ)
    (hV' : ∀ c, V' c = Pipeline.afterRegion (dats m p c) (V c)) :
    Pipeline.RegionSeg (pcfgs (F := F)) adm (dats m) () defs₀ Variants.none L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X _ := BI.emp
  Y _ := BI.emp
  Z c := iprop(Pipeline.unscopedRest (Ix := Unit) (Name := ℕ) (U := UU) (Lvl := ℕ) (cfgs p).spec c (fun b => V c b))
  hentry c := by
    rw [Pipeline.ownSems0_none, ← Pipeline.unscopedBufs_held]
    have hsplit := Pipeline.arrays_of_unscopedBufs (p := p) (pcfgs (F := F)) adm (dats m) kit.win kit.arr_whole c
      ((dats m p c).share_full (hq c)) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ) kit.win kit.arr_whole c
      (dats m) ((dats m p c).share_full (hq c)) (fun b => V c b) (fun b => V' c b) ((dats m p c).arrAt · (cfgs p).N)
      (fun w => by
        rw [hV']
        exact (Pipeline.afterRegion_arr (dats m p c) (V c) kit.win.arr_inj w).symm)
      (fun b hb => by
        rw [hV']
        exact Pipeline.afterRegion_of_not_arr (dats m p c) (V c) fun w h => hb (Finset.mem_image.mpr ⟨w, Finset.mem_univ _, h.symm⟩))
    rw [← Pipeline.unscopedBufs_held]
    iintro ⟨Ha, HO, -, Hrest⟩
    imodintro
    isplitl [Ha Hrest]
    · iapply hjoin; isplitl [Ha]; · iexact Ha
      iexact Hrest
    unfold Pipeline.Dat.owesAt Pipeline.owesWithin
    rw [howed]
    icases HO with ⟨%W, -, HO⟩; iexists W; iexact HO

/-- The first kernel's region. -/
def region0 : Pipeline.RegionSeg (pcfgs (F := F)) adm (dats m) () defs₀ Variants.none L lv 0 :=
  region m 0 launch0 (V1 m) (W2 m) (fun c => body0 c (V1 m c)) (fun _ _ => rfl) (fun _ _ => rfl) (fun _ _ => rfl)
    (fun _ _ => rfl) (fun _ => rfl) (fun _ => rfl)

/-- The second kernel's region. -/
def region1 : Pipeline.RegionSeg (pcfgs (F := F)) adm (dats m) () defs₀ Variants.none L lv 1 :=
  region m 1 launch1 (W2 m) (W3 m) (fun c => body1 c (W2 m c)) (fun _ _ => rfl) (fun _ _ => rfl) (fun _ _ => rfl)
    (fun _ _ => rfl) (fun _ => rfl) (fun _ => rfl)

/-- The last host stretch. -/
def last : Pipeline.HostSeg (Ix := Unit) (Name := ℕ) (U := UU) (Lvl := ℕ) (pcfgs (F := F)) defs₀ Variants.none L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

abbrev items : List (Pipeline.Seg (pcfgs (F := F)) adm (dats m) () defs₀ Variants.none L lv) :=
  [.host (seg0 m Variants.none L lv fun _ => R), .region (region0 m), .region (region1 m), .host (last m)]

/-- The launch's element of the algebra. -/
def u₀ : UU := (initOf (Pipeline.cells cfgs cellOf_inj) (Pipeline.launchToks cfgs cellOf_inj), 1)

/-- The argument reaches the end as launched. -/
theorem W4_arg (c : Dev nD) : W4 m c (Proc.devRef .tc main_arg0) = m ((c : Thread nD τ).loc main_arg0) := by
  have h4 : W4 m c (Proc.devRef .tc main_arg0) = W3 m c (Proc.devRef .tc main_arg0) :=
    StableHlo.after_of_writes_sub hostOps2 _ hostOps2_writes (by decide)
  rw [h4]
  unfold W3
  rw [Pipeline.afterRegion_of_not_arr _ _ (by decide)]
  unfold W2
  rw [Pipeline.afterRegion_of_not_arr _ _ (by decide)]
  exact V1_of m c main_arg0 (by decide)

set_option backward.isDefEq.respectTransparency.types false in
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_v3) = W4 m c (Proc.devRef .tc main_v3))
      ∧ r.2.sem = fun _ => 0) := by
  refine Pipeline.θ_run_regions_kit_sems (pcfgs (F := F)) adm (dats m) () cellOf_inj (embL : Emb (UR sig nD τ) 𝕄) defs₀ Variants.none L lv m ρ main (items m)
    (fun c Q => by
      rewrite [main_chain c, Pipeline.Seg.run_eq_chain,
        show (items m).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (by simp only [items, Pipeline.Seg.pipes_host, Pipeline.Seg.pipes_region, Pipeline.Seg.pipes_nil]; decide)
    (O₀ := 0) (hL := fun _ _ => rfl) (G := fun _ => iprop(emp)) (u₀ := u₀)
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (W4 m c))
    (hch := ⟨fun _ => .rfl, fun _ => .rfl, fun _ => .rfl, fun _ => .rfl, fun _ => .rfl⟩)
    (hinit := ?_)
    (QY := fun c s => s.mem ((c.tc : Thread nD τ).loc main_arg0) = m ((c.tc : Thread nD τ).loc main_arg0)
        ∧ s.mem ((c.tc : Thread nD τ).loc main_v3) = W4 m c (Proc.devRef .tc main_v3))
    (hfin := fun c s' => ?_)
    (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W4_arg m c),
        h (Proc.devRef .tc main_v3) (Finset.mem_filter.mpr ⟨StableHlo.devRef_mem_tcRefs main_v3, by decide⟩)⟩
    · iexact HSI

end Cert.KernelIdeal.Run
-- ==== Proof.KernelRun.lean ====
/-
The program as written: it is the idealized program read with the constant at its own bits.
-/
module

public import proofs.«01_k».proof.Defs
public import proofs.«01_k».proof.Proof.Gen.Kernel
public import proofs.«01_k».proof.Proof.KernelIdealRun

@[expose] public section

set_option maxRecDepth 1000000
set_option maxHeartbeats 0

noncomputable section

namespace Cert.Kernel.Run

open Idealize.ShloMosaic Idealize.SL.Sem

/-- The named constant read as the number its pattern spells. -/
abbrev asWritten : Named Bits := ⟨fun _ _ φ b => (Scalar.ofBits φ b : Bits φ)⟩

/-- The two body tables are one: each body is the other's, the constant read. -/
theorem defs₀_eq : Cert.Kernel.defs₀ (F := Bits) = @Cert.KernelIdeal.defs₀ Bits _ asWritten _ :=
  congrArg Defs.onTc (funext fun l => funext fun a => match l, a with
    | ⟨0, _⟩, (_, _) => rfl
    | ⟨1, _⟩, (_, _) => rfl)

theorem defs_eq : Cert.Kernel.defs (F := Bits) = @Cert.KernelIdeal.defs Bits _ asWritten _ := by
  unfold Cert.Kernel.defs
  rw [defs₀_eq]
  rfl

theorem run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_v3) = @KernelIdeal.Run.W4 Bits _ asWritten m c (Proc.devRef .tc Cert.KernelIdeal.main_v3))
      ∧ r.2.sem = fun _ => 0) := by
  rw [defs_eq]
  exact @KernelIdeal.Run.run Bits _ asWritten m g

end Cert.Kernel.Run
-- ==== Proof.KernelIdealArrays.lean ====
/-
The arrays the two kernels leave.
-/
module

public import proofs.«01_k».proof.Proof.KernelIdealRun
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F] [Named F]
variable (m : (ℓ : Loc nD τ sig) → Buf (Elt F) ℓ) (c : Dev nD)

/-- The logits the first kernel reads, one column a row of the argument. -/
abbrev logits : S100000x1024.Idx → F .f32 := V1 m c (Proc.devRef .tc main_v0)

/-- The counter of an element of the transposed array. -/
def counter (y : S100000x1024.Idx) : BitVec 32 :=
  BitVec.ofNat 32 (y 1).val * 100000#32 + BitVec.ofNat 32 (y 0).val

/-- The unnormalized weights. -/
def mass : S100000x1024.Idx → F .f32 := fun y => Rolled.weight1 cst (logits m c y) (counter y)

theorem idx0_0 (t : Fin grid0.N) : win0_0.index t = ![t.val, 0] := by
  have h : ∀ t : Fin grid0.N, win0_0.index t = ![t.val, 0] := by decide +kernel
  exact h t
theorem idx0_1 (t : Fin grid0.N) : win0_1.index t = ![t.val, 0] := by
  have h : ∀ t : Fin grid0.N, win0_1.index t = ![t.val, 0] := by decide +kernel
  exact h t
theorem idx1_0 (t : Fin grid1.N) : win1_0.index t = ![t.val, 0] := by
  have h : ∀ t : Fin grid1.N, win1_0.index t = ![t.val, 0] := by decide +kernel
  exact h t
theorem idx1_1 (t : Fin grid1.N) : win1_1.index t = ![0, 0] := by
  have h : ∀ t : Fin grid1.N, win1_1.index t = ![0, 0] := by decide +kernel
  exact h t
theorem idx1_2 (t : Fin grid1.N) : win1_2.index t = ![t.val, 0] := by
  have h : ∀ t : Fin grid1.N, win1_2.index t = ![t.val, 0] := by decide +kernel
  exact h t

theorem emb0_0 (t : Fin cfg0.N) (y : (win0_0.xblock (grid0.coords t)).Idx) :
    ((win0_0.blk t).view.emb y : S100000x1024.Idx) = (win0_1.blk t).view.emb y := by
  funext a
  apply Fin.ext
  fin_cases a
  · blk_simp [idx0_0 t, idx0_1 t]
  · blk_simp [idx0_0 t, idx0_1 t]

theorem emb0_1_row (t : Fin cfg0.N) (y : (win0_1.xblock (grid0.coords t)).Idx) :
    (((win0_1.blk t).view.emb y : S100000x1024.Idx) 0).val = t.val * 1000 + (y 0).val := by
  blk_simp [idx0_1 t]

theorem emb0_1_col (t : Fin cfg0.N) (y : (win0_1.xblock (grid0.coords t)).Idx) :
    (((win0_1.blk t).view.emb y : S100000x1024.Idx) 1).val = (y 1).val := by
  blk_simp [idx0_1 t]

theorem count_emb (t : Fin cfg0.N) (y : (win0_1.xblock (grid0.coords t)).Idx) :
    Rolled.count (word t) y = counter ((win0_1.blk t).view.emb y) := by
  unfold Rolled.count counter
  rw [emb0_1_row, emb0_1_col, word, coords0]
  simp only [BitVec.ofNat_add, BitVec.ofNat_mul]
  rw [BitVec.add_assoc, BitVec.add_comm (BitVec.ofNat 32 (y 0).val)]

theorem weights_emb (t : Fin cfg0.N) (y : (win0_1.xblock (grid0.coords t)).Idx) :
    Rolled.weights (cst (F := F)) (word t) (xblk (V1 m c) t) y = mass m c ((win0_1.blk t).view.emb y) := by
  unfold Rolled.weights mass
  rw [count_emb, ← emb0_0 t y]
  rfl

theorem mass_arr : (dat0 c (V1 m c)).arrAt 1 cfg0.N = mass m c := by
  refine (dat0 c (V1 m c)).arrAt_eq_of_covers 1 _ (by decide +kernel) fun t hf y => ?_
  blk_simp
  exact weights_emb m c t y

theorem total_arr : (dat0 c (V1 m c)).arrAt 2 cfg0.N = upto (V1 m c) 99 := by
  refine (dat0 c (V1 m c)).arrAt_eq_of_after_last 2 ⟨99, by decide⟩ (by decide +kernel) _ fun j => ?_
  blk_simp
  rfl

theorem W2_mass : W2 m c (Proc.devRef .tc main_v1_0) = mass m c := by
  rw [← mass_arr]
  exact Pipeline.afterRegion_arr (dat0 c (V1 m c)) (V1 m c) launch0.win.arr_inj 1

theorem W2_total : W2 m c (Proc.devRef .tc main_v1_1) = upto (V1 m c) 99 := by
  rw [← total_arr]
  exact Pipeline.afterRegion_arr (dat0 c (V1 m c)) (V1 m c) launch0.win.arr_inj 2

/-- The normalized array. -/
def shares : S100000x1024.Idx → F .f32 := fun y =>
  FloatOps.mulf (mass m c y) (Rolled.inverse (upto (V1 m c) 99) (ix2 0 (y 1)))

theorem scaled_at (X : FVec F Rolled.Wide .f32) (S : FVec F Rolled.Tile .f32) (y : Rolled.Wide.Idx) :
    Rolled.scaled X S y = FloatOps.mulf (X y) (Rolled.inverse S (ix2 0 (y 1))) := by
  unfold Rolled.scaled
  pointwise

theorem emb1_0 (t : Fin cfg1.N) (y : (win1_0.xblock (grid1.coords t)).Idx) :
    ((win1_0.blk t).view.emb y : S100000x1024.Idx) = (win1_2.blk t).view.emb y := by
  funext a
  apply Fin.ext
  fin_cases a
  · blk_simp [idx1_0 t, idx1_2 t]
  · blk_simp [idx1_0 t, idx1_2 t]

theorem emb1_1 (t : Fin cfg1.N) (y : (win1_1.xblock (grid1.coords t)).Idx) :
    ((win1_1.blk t).view.emb y : S8x1024.Idx) = y := by
  funext a
  apply Fin.ext
  fin_cases a
  · blk_simp [idx1_1 t]
  · blk_simp [idx1_1 t]

theorem emb1_2_col (t : Fin cfg1.N) (y : (win1_2.xblock (grid1.coords t)).Idx) :
    (((win1_2.blk t).view.emb y : S100000x1024.Idx) 1) = y 1 := by
  apply Fin.ext
  blk_simp [idx1_2 t]

theorem shares_arr : (dat1 c (W2 m c)).arrAt 2 cfg1.N = shares m c := by
  refine (dat1 c (W2 m c)).arrAt_eq_of_covers 2 _ (by decide +kernel) fun t hf y => ?_
  blk_simp
  have hS : sblk (W2 m c) t = upto (V1 m c) 99 := by
    funext z
    rw [← W2_total]
    exact congrArg (W2 m c (Proc.devRef .tc main_v1_1)) (emb1_1 t z)
  have hX : wblk (W2 m c) t y = mass m c ((win1_2.blk t).view.emb y) := by
    rw [← emb1_0 t y, ← W2_mass]
    rfl
  show Rolled.scaled (wblk (W2 m c) t) (sblk (W2 m c) t) y = _
  rw [scaled_at, hS, hX, shares, emb1_2_col]

theorem W3_shares : W3 m c (Proc.devRef .tc main_v2) = shares m c := by
  rw [← shares_arr]
  exact Pipeline.afterRegion_arr (dat1 c (W2 m c)) (W2 m c) launch1.win.arr_inj 2

theorem logits_eq : (V1 m c (Proc.devRef .tc main_v0) : S100000x1024.Idx → Elt F .f32)
    = transpose S100000x1024 [1, 0] (m ((c : Thread nD τ).loc main_arg0) : S1024x100000.Idx → Elt F .f32)
        transposes_S1024x100000_S100000x1024_1_0 := by
  rfl

theorem W4_out : (W4 m c (Proc.devRef .tc main_v3) : S1024x100000.Idx → Elt F .f32)
    = transpose S1024x100000 [1, 0] (shares m c) transposes_S100000x1024_S1024x100000_1_0 := by
  rw [← W3_shares]
  rfl

/-- The result at row `b` and class `v`. -/
theorem W4_at (y : S1024x100000.Idx) : (W4 m c (Proc.devRef .tc main_v3) : S1024x100000.Idx → Elt F .f32) y
    = shares m c (ix2 (y 1) (y 0)) := by
  rw [W4_out]
  pointwise

theorem logits_at (y : S100000x1024.Idx) : logits m c y
    = (m ((c : Thread nD τ).loc main_arg0) : S1024x100000.Idx → Elt F .f32) (ix2 (y 1) (y 0)) := by
  unfold logits
  rw [logits_eq]
  pointwise

end Cert.KernelIdeal.Run
-- ==== Proof.KernelSum.lean ====
/-
Over the extended reals the kernel's result is each weight over its row's sum.
-/
module

public import proofs.«01_k».proof.Proof.KernelIdealArrays

@[expose] public section

set_option maxRecDepth 16384

noncomputable section

namespace Cert.KernelIdeal.Run

open Cert.KernelIdeal Cert.KernelIdeal.Gen
open Idealize.ShloMosaic Idealize.ShloMosaic.TcCoe
open Finset

variable (m : (ℓ : Loc nD τ sig) → Buf (Elt Ideal) ℓ) (c : Dev nD)

/-- The weight of class `v` in row `b`, nothing past the last class. -/
def massAt (b : Fin 1024) (v : ℕ) : EReal := if h : v < 100000 then mass m c (ix2 ⟨v, h⟩ b) else 0

theorem massAt_of (b : Fin 1024) (v : ℕ) (h : v < 100000) : massAt m c b v = mass m c (ix2 ⟨v, h⟩ b) := dif_pos h

theorem massAt_emb (t : Fin cfg0.N) (n : ℕ) (h : n + 8 ≤ 1000) (i : Rolled.Tile.Idx) :
    Rolled.payload (cst (F := Ideal)) (Rolled.base (word t)) (xblk (V1 m c) t) n h i
      = massAt m c (i 1) (t.val * 1000 + (n + (i 0).val)) := by
  rw [Rolled.payload_at, weights_emb]
  have ht : t.val < 100 := t.isLt
  have hi : (i 0).val < 8 := (i 0).isLt
  refine Eq.trans ?_ (massAt_of m c _ _ (by omega)).symm
  congr 1
  have h0 := emb0_1_row t ((Rolled.rows n h).emb i)
  have h1 := emb0_1_col t ((Rolled.rows n h).emb i)
  have e0 : (((Rolled.rows n h).emb i) 0).val = n + (i 0).val := by
    show n + 1 * (i 0).val = _; omega
  have e1 : (((Rolled.rows n h).emb i) 1).val = (i 1).val := by
    show 0 + 1 * (i 1).val = _; omega
  rw [e0] at h0
  rw [e1] at h1
  funext a
  apply Fin.ext
  fin_cases a
  · exact h0
  · exact h1

theorem summed_eq (cst : Ideal .f32) (bs : IVec Rolled.Tile 32) (X : Rolled.Block.Idx → Elt Ideal .f32) (i : Rolled.Tile.Idx) (g : ℕ → EReal)
    (hg : ∀ n h, Rolled.payload cst bs X n h i = g n) (l : List ℕ) (hl : ∀ n ∈ l, n + 8 ≤ 1000) (acc : FVec Ideal Rolled.Tile .f32) :
    Rolled.summed cst bs X l hl acc i = acc i + (l.map g).sum := by
  induction l generalizing acc with
  | nil => simp [Rolled.summed]
  | cons n l ih =>
    rw [Rolled.summed, ih, List.map_cons, List.sum_cons, ← add_assoc]
    congr 1
    show acc i + Rolled.payload cst bs X n _ i = _
    rw [hg]

theorem list_sum_range (n : ℕ) (g : ℕ → EReal) : ((List.range n).map g).sum = ∑ k ∈ range n, g k := by
  induction n with
  | zero => rfl
  | succ n ih => rw [List.range_succ, List.map_append, List.sum_append, ih, sum_range_succ]; simp

theorem part_eq (t : Fin cfg0.N) (i : Rolled.Tile.Idx) :
    part (V1 m c) t i = ∑ k ∈ range 125, massAt m c (i 1) (t.val * 1000 + (k * 8 + (i 0).val)) := by
  unfold part Rolled.sums
  rw [summed_eq (cst (F := Ideal)) _ _ i _ (fun n h => massAt_emb m c t n h i), Rolled.firsts_eq, List.map_map, list_sum_range]
  have z : (broadcast Rolled.Tile (Scalar.ofBits .f32 0x00000000#32) : FVec Ideal Rolled.Tile .f32) i = 0 := Ideal.ofBits_zero .f32
  rw [z, zero_add]
  refine sum_congr rfl fun k _ => ?_
  show massAt m c (i 1) (t.val * 1000 + (8 * k + (i 0).val)) = _
  rw [Nat.mul_comm 8 k]

theorem upto_eq (n : ℕ) (hn : n < 100) (i : Rolled.Tile.Idx) :
    upto (V1 m c) n i = ∑ t ∈ range (n + 1), ∑ k ∈ range 125, massAt m c (i 1) (t * 1000 + (k * 8 + (i 0).val)) := by
  induction n with
  | zero =>
    rw [sum_range_succ, range_zero, sum_empty, zero_add]
    exact part_eq m c ⟨0, _⟩ i
  | succ n ih =>
    rw [sum_range_succ, ← ih (by omega), upto, dif_pos (show n + 1 < cfg0.N from hn)]
    show upto (V1 m c) n i + part (V1 m c) ⟨n + 1, _⟩ i = _
    rw [part_eq]

/-- The row's sum. -/
def rowSum (b : Fin 1024) : EReal := ∑ v : Fin 100000, mass m c (ix2 v b)

theorem tile_sum (b : Fin 1024) : ∑ r : Fin 8, upto (V1 m c) 99 (ix2 r b) = rowSum m c b := by
  have h : rowSum m c b = ∑ v ∈ range 100000, massAt m c b v := by
    rw [Finset.sum_range]
    refine sum_congr rfl fun v _ => ?_
    exact (massAt_of m c b v v.isLt).symm
  rw [h, show 100000 = 100 * 1000 from rfl, Finset.sum_range_mul_split]
  rw [show (∑ r : Fin 8, upto (V1 m c) 99 (ix2 r b))
      = ∑ r : Fin 8, ∑ t ∈ range 100, ∑ k ∈ range 125, massAt m c b (t * 1000 + (k * 8 + r.val)) from
    sum_congr rfl fun r _ => upto_eq m c 99 (by omega) (ix2 r b)]
  rw [sum_comm]
  refine sum_congr rfl fun t _ => ?_
  rw [show 1000 = 125 * 8 from rfl, Finset.sum_range_mul_split, sum_comm]
  refine sum_congr rfl fun k _ => ?_
  rw [Finset.sum_range]

theorem inverse_at (S : FVec Ideal Rolled.Tile .f32) (b : Fin 1024) :
    Rolled.inverse S (ix2 0 b) = Ideal.div 1 (∑ r : Fin 8, S (ix2 r b)) := by
  unfold Rolled.inverse
  pointwise

/-- The kernel's result at row `b` and class `v`. -/
theorem out_at (y : S1024x100000.Idx) : (W4 m c (Proc.devRef .tc main_v3) : S1024x100000.Idx → EReal) y
    = mass m c (ix2 (y 1) (y 0)) * Ideal.div 1 (rowSum m c (y 0)) := by
  refine (W4_at m c y).trans ?_
  refine congrArg (mass m c (ix2 (y 1) (y 0)) * ·) ((inverse_at _ _).trans ?_)
  exact congrArg (Ideal.div 1) (tile_sum m c (y 0))

end Cert.KernelIdeal.Run
-- ==== Proof.RefLine.lean ====
/-
The reference as one line of host operations.
-/
module

public import proofs.«01_k».proof.ReferenceIdeal
public import proofs.«01_k».proof.Proof.Gen.ReferenceIdeal
public import Idealize.ShloMosaic.Lib.StableHlo.RunHlo
public import Idealize.ShloMosaic.Lib.StableHlo.RunRead

@[expose] public section

set_option maxRecDepth 65536
set_option maxHeartbeats 0

noncomputable section

namespace Cert.ReferenceIdeal.Line

open Cert.ReferenceIdeal
open Idealize.ShloMosaic Idealize.SL.Sem Idealize.ShloMosaic.StableHlo

variable {F : FTy → Type} [FloatOps F]

/-- Two straight lines one after the other. -/
theorem append {nD : Nat} {τ : Topo} {sig : RefSig} {Val : EltTy → Type} {Λ : Labels}
    {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at *
  rw [h₁, h₂, seq_append]

/-- One operation. -/
theorem single {nD : Nat} {τ : Topo} {sig : RefSig} {Val : EltTy → Type} {Λ : Labels} (op : HloOp τ sig Val) :
    IsSeq (nD := nD) (Λ := Λ) (hlo rfl op fun _ => .ret (⟨⟩ : PUnit)) [op] := by
  unfold IsSeq
  rfl

/-- The list a proof found. -/
def listed {nD : Nat} {τ : Topo} {sig : RefSig} {Val : EltTy → Type} {Λ : Labels}
    {p : Prog (TpuEff nD τ sig Val Λ .tc) PUnit} {l : List (HloOp τ sig Val)} (h : IsSeq p l) : { l : List (HloOp τ sig Val) // IsSeq p l } := ⟨l, h⟩

abbrev Ops (F : FTy → Type) [FloatOps F] := List (HloOp τ sig (Elt F))

section Parts

abbrev a0 : TRef sig ⟨S_, .i32⟩ := main_call0.v5
abbrev a1 : TRef sig ⟨S_, .i32⟩ := main_call0.v7
abbrev a2 : TRef sig ⟨S1024x100000, .i32⟩ := main_call0.v18
abbrev a3 : TRef sig ⟨S1024x100000, .i32⟩ := main_call0.v17

def part0 : { l : Ops F // IsSeq (fn_threefry2x32.body_part0 (F := F) a0 a1 a2 a3 main_call0.call0) l } :=
  by apply listed; unfold fn_threefry2x32.body_part0; (repeat (first | exact IsSeq.nil | exact single _ | apply IsSeq.cons))

def part1 : { l : Ops F // IsSeq (fn_threefry2x32.body_part1 (F := F) a0 a1 a2 a3 main_call0.call0) l } :=
  by apply listed; unfold fn_threefry2x32.body_part1; (repeat (first | exact IsSeq.nil | exact single _ | apply IsSeq.cons))

def part2 : { l : Ops F // IsSeq (fn_threefry2x32.body_part2 (F := F) a0 a1 a2 a3 main_call0.call0) l } :=
  by apply listed; unfold fn_threefry2x32.body_part2; (repeat (first | exact IsSeq.nil | exact single _ | apply IsSeq.cons))

def part3 : { l : Ops F // IsSeq (fn_threefry2x32.body_part3 (F := F) a0 a1 a2 a3 main_call0.call0) l } :=
  by apply listed; unfold fn_threefry2x32.body_part3; (repeat (first | exact IsSeq.nil | exact single _ | apply IsSeq.cons))

def threefry : { l : Ops F // IsSeq (fn_threefry2x32.body (F := F) a0 a1 a2 a3 main_call0.call0) l } :=
  ⟨part0.1 ++ (part1.1 ++ (part2.1 ++ part3.1)), by
    unfold fn_threefry2x32.body
    exact append part0.2 (append part1.2 (append part2.2 part3.2))⟩

def uniform : { l : Ops F // IsSeq (fn_uniform.body (F := F) (.of main_v6) (.of main_cst) (.of main_cst_2) main_call0) l } :=
  by apply listed; unfold fn_uniform.body; (repeat (first | exact IsSeq.nil | apply IsSeq.cons | apply append threefry.2))

def whole (c : Dev nD) : { l : Ops F // IsSeq (main (F := F) c) l } :=
  by apply listed; unfold main; (repeat (first | exact IsSeq.nil | apply IsSeq.cons | apply append uniform.2))

/-- The whole reference. -/
def line : Ops F := (whole 0).1

theorem main_line (c : Dev nD) : IsSeq (main (F := F) c) line := (whole 0).2

end Parts

theorem line_sub : (line (F := F)).Forall fun op => op.bufs ⊆ tcRefs τ sig := by
  simp [line, whole, uniform, threefry, part0, part1, part2, part3, listed]

theorem line_fresh : ∀ op ∈ line (F := F), op.fresh = ∅ := by
  intro _ h; (repeat (cases h with | head => rfl | tail _ h => ?_)); exact nomatch h

variable (m : (ℓ : Loc nD τ sig) → Buf (Elt F) ℓ)

/-- What the reference leaves on a device. -/
def W (c : Dev nD) : Valuation τ sig (Elt F) := after line (launchContents m c)

theorem W_arg (c : Dev nD) : W m c (Proc.devRef .tc main_arg0) = m ((c.tc : Thread nD τ).loc main_arg0) := by
  unfold W
  after_reads_simp

theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_v27) = W m c (Proc.devRef .tc main_v27))
      ∧ r.2.sem = fun _ => 0) :=
  θ_run_mono (run_hlo defs main main_line (by decide) (by decide) line_sub line_fresh m ρ) fun r h =>
    ⟨fun c => ⟨(h c main_arg0).trans (W_arg m c), h c main_v27⟩, funext fun g => match g with | ⟨_, .reg s⟩ => s.elim0 | ⟨_, .dma s⟩ => s.elim0⟩

end Cert.ReferenceIdeal.Line
-- ==== Proof.RefHash.lean ====
/-
The reference's random words: the twenty rounds read five times four.
-/
module

public import proofs.«01_k».proof.Proof.RefLine
public import proofs.«01_k».proof.Proof.RolledValue

@[expose] public section

set_option maxRecDepth 65536
set_option maxHeartbeats 0

noncomputable section

namespace Cert.ReferenceIdeal.Line

open Cert.ReferenceIdeal Cert.Rolled
open Idealize.ShloMosaic Idealize.SL.Sem Idealize.ShloMosaic.StableHlo

variable {F : FTy → Type} [FloatOps F]

/-- The words of an array of words. -/
abbrev word {s : Shape} (x : (⟨s, .i32⟩ : BufTy).Contents (Elt F)) (y : s.Idx) : BitVec 32 := x y

/-- Shifting every word left by a constant. -/
theorem shl_host {s : Shape} {b} (x : IVec s 32) (r : Nat) (h : r < 32) :
    Host.shli x (broadcastInDim s ![] b (constantI S_ 32 (BitVec.ofNat 32 r))) = fun y => x y <<< r := by
  have e : (BitVec.ofNat 32 r).toNat = r := by rw [BitVec.toNat_ofNat]; exact Nat.mod_eq_of_lt (by omega)
  funext y
  show IntOp.shli .host (x y) (BitVec.ofNat 32 r) = _
  unfold IntOp.shli
  rw [if_pos (by rw [e]; exact h), BitVec.shiftLeft_eq', e]

/-- Shifting every word right by a constant. -/
theorem shr_host {s : Shape} {b} (x : IVec s 32) (r : Nat) (h : r < 32) :
    Host.shrui x (broadcastInDim s ![] b (constantI S_ 32 (BitVec.ofNat 32 r))) = fun y => x y >>> r := by
  have e : (BitVec.ofNat 32 r).toNat = r := by rw [BitVec.toNat_ofNat]; exact Nat.mod_eq_of_lt (by omega)
  funext y
  show IntOp.shrui .host (x y) (BitVec.ofNat 32 r) = _
  unfold IntOp.shrui
  rw [if_pos (by rw [e]; exact h), BitVec.ushiftRight_eq', e]

/-- Group `i` of the twenty rounds. -/
def rounds (i : Nat) : Ops F := (line.drop (41 + 43 * i)).take 43

/-- What the rounds read besides the two words, and what they hand on. -/
structure Keys (X : (⟨S1024x100000, .f32⟩ : BufTy).Contents (Elt F)) (V : Valuation τ sig (Elt F)) : Prop where
  arg : V (Proc.devRef .tc main_arg0) = X
  lo : V (Proc.devRef .tc main_call0_v2) = constant S1x1 .f32 0x00000000#32
  hi : V (Proc.devRef .tc main_call0_v3) = constant S1x1 .f32 0x3F800000#32
  k0 : V (Proc.devRef .tc main_call0_v5) = constantI S_ 32 0#32
  k1 : V (Proc.devRef .tc main_call0_v7) = constantI S_ 32 42#32
  k2 : V (Proc.devRef .tc main_call0_call0_v1) = constantI S_ 32 466689008#32

variable {X : (⟨S1024x100000, .f32⟩ : BufTy).Contents (Elt F)} {V : Valuation τ sig (Elt F)}

theorem keys_rounds (i : Nat) (hi : i < 5) (hV : Keys X V) : Keys X (after (rounds i) V) := by
  obtain ⟨h0, h1, h2, h3, h4, h5⟩ := hV
  interval_cases i <;>
  · constructor <;> after_reads_simp <;> assumption

variable (hV : Keys X V) {y : S1024x100000.Idx} {p q : BitVec 32}
include hV

theorem rounds0 {α : Type} (k : BitVec 32 → BitVec 32 → α)
    (ha : word (V (Proc.devRef .tc main_call0_call0_v3)) y = p) (hb : word (V (Proc.devRef .tc main_call0_call0_v5)) y = q) :
    k (word (after (rounds 0) V (Proc.devRef .tc main_call0_call0_v35)) y) (word (after (rounds 0) V (Proc.devRef .tc main_call0_call0_v39)) y) =
      fourA1 p q fun a b => inject1 42#32 466689008#32 1#32 a b k := by
  subst ha hb
  unfold word
  after_reads_simp
  simp (discharger := decide) only [TRef.ofBuf_toBuf, shl_host, shr_host]
  rw [hV.k1, hV.k2]
  rfl

theorem rounds1 {α : Type} (k : BitVec 32 → BitVec 32 → α)
    (ha : word (V (Proc.devRef .tc main_call0_call0_v35)) y = p) (hb : word (V (Proc.devRef .tc main_call0_call0_v39)) y = q) :
    k (word (after (rounds 1) V (Proc.devRef .tc main_call0_call0_v69)) y) (word (after (rounds 1) V (Proc.devRef .tc main_call0_call0_v73)) y) =
      fourB1 p q fun a b => inject1 466689008#32 0#32 2#32 a b k := by
  subst ha hb
  unfold word
  after_reads_simp
  simp (discharger := decide) only [TRef.ofBuf_toBuf, shl_host, shr_host]
  rw [hV.k2, hV.k0]
  rfl

theorem rounds2 {α : Type} (k : BitVec 32 → BitVec 32 → α)
    (ha : word (V (Proc.devRef .tc main_call0_call0_v69)) y = p) (hb : word (V (Proc.devRef .tc main_call0_call0_v73)) y = q) :
    k (word (after (rounds 2) V (Proc.devRef .tc main_call0_call0_v103)) y) (word (after (rounds 2) V (Proc.devRef .tc main_call0_call0_v107)) y) =
      fourA1 p q fun a b => inject1 0#32 42#32 3#32 a b k := by
  subst ha hb
  unfold word
  after_reads_simp
  simp (discharger := decide) only [TRef.ofBuf_toBuf, shl_host, shr_host]
  rw [hV.k0, hV.k1]
  rfl

theorem rounds3 {α : Type} (k : BitVec 32 → BitVec 32 → α)
    (ha : word (V (Proc.devRef .tc main_call0_call0_v103)) y = p) (hb : word (V (Proc.devRef .tc main_call0_call0_v107)) y = q) :
    k (word (after (rounds 3) V (Proc.devRef .tc main_call0_call0_v137)) y) (word (after (rounds 3) V (Proc.devRef .tc main_call0_call0_v141)) y) =
      fourB1 p q fun a b => inject1 42#32 466689008#32 4#32 a b k := by
  subst ha hb
  unfold word
  after_reads_simp
  simp (discharger := decide) only [TRef.ofBuf_toBuf, shl_host, shr_host]
  rw [hV.k1, hV.k2]
  rfl

theorem rounds4 {α : Type} (k : BitVec 32 → BitVec 32 → α)
    (ha : word (V (Proc.devRef .tc main_call0_call0_v137)) y = p) (hb : word (V (Proc.devRef .tc main_call0_call0_v141)) y = q) :
    k (word (after (rounds 4) V (Proc.devRef .tc main_call0_v19_0)) y) (word (after (rounds 4) V (Proc.devRef .tc main_call0_v19_1)) y) =
      fourA1 p q fun a b => inject1 466689008#32 0#32 5#32 a b k := by
  subst ha hb
  unfold word
  after_reads_simp
  simp (discharger := decide) only [TRef.ofBuf_toBuf, shl_host, shr_host]
  rw [hV.k2, hV.k0]
  rfl

end Cert.ReferenceIdeal.Line
-- ==== Proof.RefValue.lean ====
/-
What the reference leaves: the perturbed logits element by element, and their softmax.
-/
module

public import proofs.«01_k».proof.Proof.RefHash

@[expose] public section

set_option maxRecDepth 65536
set_option maxHeartbeats 0

noncomputable section

namespace Cert.ReferenceIdeal.Line

open Cert.ReferenceIdeal Cert.Rolled Cert.ReferenceIdeal.Facts₀
open Idealize.ShloMosaic Idealize.SL.Sem Idealize.ShloMosaic.StableHlo

abbrev Mat : Type := (⟨S1024x100000, .f32⟩ : BufTy).Contents (Elt Ideal)

/-- The line's stretches: up to the hash's operands, up to the rounds, from the rounds to the perturbed logits, the softmax. -/
def opening : Ops Ideal := line.take 34
def entering : Ops Ideal := (line.drop 34).take 7
def perturbing : Ops Ideal := (line.drop 256).take 29
def softening : Ops Ideal := line.drop 285

/-- The counter of an element. -/
def counter (y : S1024x100000.Idx) : BitVec 32 :=
  (100000#64 * BitVec.ofNat 64 (y 0).val + 1#64 * BitVec.ofNat 64 (y 1).val).setWidth 32

variable {X : Mat} {V : Valuation τ sig (Elt Ideal)}

theorem key_high : upto (opening : Ops Ideal) V 9 (Proc.devRef .tc main_v2) = constantI S1 32 0#32 := by
  after_reads_simp
  rfl

theorem key_low : upto (opening : Ops Ideal) V 9 (Proc.devRef .tc main_v5) = constantI S1 32 42#32 := by
  after_reads_simp
  funext i
  show (42#32 &&& 4294967295#32 : BitVec 32) = 42#32
  decide

/-- An index of the two words, one of whose coordinates is known. -/
theorem at_key (x : IVec S2 32) (k : Fin 2) (i : S1.Idx) {h} :
    x (fun a => ⟨(![k.val] : Fin 1 → Nat) a + (i (a.cast h)).val, by
      have := (i (a.cast h)).isLt; have := k.isLt; fin_cases a; show k.val + (i 0).val < 2; have : (i 0).val < 1 := (i 0).isLt; omega⟩) =
      x fun a => ⟨k.val, by fin_cases a; exact k.isLt⟩ := by
  refine congrArg x (funext fun a => Fin.ext ?_)
  fin_cases a
  have : (i 0).val < 1 := (i 0).isLt
  show k.val + (i 0).val = k.val
  omega

theorem first_key (a b : IVec S1 32) {h₁ h₂ h₃} (ha : a = constantI S1 32 0#32) (hb : b = constantI S1 32 42#32) :
    shapeCast S_ (extractStridedSlice S1 ![0] (concatenate S2 0 [⟨S1, a⟩, ⟨S1, b⟩] h₁) h₂) h₃ = constantI S_ 32 0#32 := by
  subst ha hb
  funext i
  refine (at_key _ 0 _ (h := rfl)).trans ?_
  rfl

theorem second_key (a b : IVec S1 32) {h₁ h₂ h₃} (ha : a = constantI S1 32 0#32) (hb : b = constantI S1 32 42#32) :
    shapeCast S_ (extractStridedSlice S1 ![1] (concatenate S2 0 [⟨S1, a⟩, ⟨S1, b⟩] h₁) h₂) h₃ = constantI S_ 32 42#32 := by
  subst ha hb
  funext i
  refine (at_key _ 1 _ (h := rfl)).trans ?_
  rfl

/-- What the hash is given. -/
structure Given (X : Mat) (V : Valuation τ sig (Elt Ideal)) : Prop where
  arg : V (Proc.devRef .tc main_arg0) = X
  lo : V (Proc.devRef .tc main_call0_v2) = constant (F := Ideal) S1x1 .f32 0x00000000#32
  hi : V (Proc.devRef .tc main_call0_v3) = constant (F := Ideal) S1x1 .f32 0x3F800000#32
  k0 : V (Proc.devRef .tc main_call0_v5) = constantI S_ 32 0#32
  k1 : V (Proc.devRef .tc main_call0_v7) = constantI S_ 32 42#32
  high : V (Proc.devRef .tc main_call0_v18) = constantI S1024x100000 32 0#32
  low : V (Proc.devRef .tc main_call0_v17) = counter

/-- The counters are below `2 ^ 32`: their high words are zero. -/
theorem counter_high (y : S1024x100000.Idx) :
    (IntOp.shrui .host (100000#64 * BitVec.ofNat 64 (y 0).val + 1#64 * BitVec.ofNat 64 (y 1).val) 32#64).setWidth 32 = 0#32 := by
  have h0 : (y 0).val < 1024 := (y 0).isLt
  have h1 : (y 1).val < 100000 := (y 1).isLt
  unfold IntOp.shrui
  rw [if_pos (by decide)]
  generalize (y 0).val = a at *
  generalize (y 1).val = b at *
  apply BitVec.eq_of_toNat_eq
  simp [BitVec.toNat_add, BitVec.toNat_mul, Nat.shiftRight_eq_div_pow]
  rw [Nat.mod_eq_of_lt (show 100000 * a + b < 18446744073709551616 by omega),
    Nat.div_eq_of_lt (show 100000 * a + b < 4294967296 by omega)]

theorem given_opening (hX : V (Proc.devRef .tc main_arg0) = X) : Given X (after opening V) := by
  constructor <;> after_reads_simp
  · exact hX
  · rfl
  · rfl
  · exact first_key _ _ (h₁ := concatenates_S1_S1_S2_d0) (h₂ := slices_S2_S1_0) key_high key_low
  · exact second_key _ _ (h₁ := concatenates_S1_S1_S2_d0) (h₂ := slices_S2_S1_1) key_high key_low
  · simp only [TRef.ofBuf_toBuf]
    exact funext counter_high
  · simp only [TRef.ofBuf_toBuf]
    rfl

theorem keys_entering (hV : Given X V) : Keys X (after entering V) := by
  constructor <;> after_reads_simp
  · exact hV.arg
  · exact hV.lo
  · exact hV.hi
  · exact hV.k0
  · exact hV.k1
  · simp only [TRef.ofBuf_toBuf]
    rw [hV.k0, hV.k1]
    funext i
    show (0#32 ^^^ 42#32 ^^^ 466688986#32 : BitVec 32) = 466689008#32
    decide

theorem entering_left (hV : Given X V) (y : S1024x100000.Idx) :
    word (after entering V (Proc.devRef .tc main_call0_call0_v3)) y = 0#32 + 0#32 := by
  unfold word
  after_reads_simp
  rw [hV.high, hV.k0]
  rfl

theorem entering_right (hV : Given X V) (y : S1024x100000.Idx) :
    word (after entering V (Proc.devRef .tc main_call0_call0_v5)) y = counter y + 42#32 := by
  unfold word
  after_reads_simp
  rw [hV.low, hV.k1]
  rfl

/-- A logit perturbed by the word of its counter. -/
def perturb (x : EReal) (w : BitVec 32) : EReal :=
  FloatOps.hostDivf (F := Ideal) (φ := .f32)
    (x + FloatOps.hostNegf (F := Ideal) (φ := .f32) (FloatOps.hostUnary (F := Ideal) (φ := .f32) .log
      (FloatOps.hostNegf (F := Ideal) (φ := .f32) (FloatOps.hostUnary (F := Ideal) (φ := .f32) .log
        (max (max (Ideal.ofBits .f32 0x00000000#32)
          ((Ideal.ofBits .f32 (fraction1 w) - Ideal.ofBits .f32 0x3F800000#32) * (Ideal.ofBits .f32 0x3F800000#32 - Ideal.ofBits .f32 0x00000000#32)
            + Ideal.ofBits .f32 0x00000000#32)) (Ideal.ofBits .f32 0x00800000#32))))))
    (Ideal.ofBits .f32 0x3F800000#32)

theorem perturbed (hV : Keys X V) {y : S1024x100000.Idx} :
    (after perturbing V (Proc.devRef .tc main_v16) : Mat) y =
      perturb (X y) (word (V (Proc.devRef .tc main_call0_v19_0)) y ^^^ word (V (Proc.devRef .tc main_call0_v19_1)) y) := by
  unfold word
  after_reads_simp
  simp (discharger := decide) only [TRef.ofBuf_toBuf, shl_host, shr_host]
  rw [hV.arg, hV.lo, hV.hi]
  rfl

/-- The softmax of the perturbed logits, as the reference takes it. -/
def soft (z : Mat) : Mat :=
  let e := Host.exp (F := Ideal) (φ := .f32) (subf z (broadcastInDim S1024x100000 ![0, 1] bcast_S1024x1_S1024x100000_0_1 (broadcastInDim S1024x1 ![0] bcast_S1024_S1024x1_0
    (maximumf (broadcastInDim S1024 ![] bcast_S_S1024 (constant S_ .f32 0xFF800000#32))
      (Host.reduce FloatOps.maximumf z (constant S_ .f32 0xFF800000#32) reducesTo_S1024x100000_S1024_d1 h_S_)))))
  Host.divf e (broadcastInDim S1024x100000 ![0, 1] bcast_S1024x1_S1024x100000_0_1 (broadcastInDim S1024x1 ![0] bcast_S1024_S1024x1_0
    (Host.reduceAdd e (constant S_ .f32 0x00000000#32) reducesTo_S1024x100000_S1024_d1 h_S_)))

theorem softened : (after softening V (Proc.devRef .tc main_v27) : Mat) = soft (V (Proc.devRef .tc main_v16)) := by
  after_reads_simp
  rfl

/-- A line run up to a point and then on. -/
theorem after_split (l : Ops Ideal) (a n : Nat) (V : Valuation τ sig (Elt Ideal)) :
    after (l.drop a) V = after (l.drop (a + n)) (after ((l.drop a).take n) V) := by
  conv_lhs => rw [← List.take_append_drop n (l.drop a), List.drop_drop]
  induction (l.drop a).take n generalizing V with
  | nil => rfl
  | cons op k ih => exact ih _

theorem after_pieces (l : Ops Ideal) (V : Valuation τ sig (Elt Ideal)) : after l V =
    after (l.drop 285) (after ((l.drop 256).take 29) (after ((l.drop (41 + 43 * 4)).take 43) (after ((l.drop (41 + 43 * 3)).take 43)
      (after ((l.drop (41 + 43 * 2)).take 43) (after ((l.drop (41 + 43 * 1)).take 43) (after ((l.drop (41 + 43 * 0)).take 43)
      (after ((l.drop 34).take 7) (after (l.take 34) V)))))))) := by
  have h : after l V = after (l.drop 0) V := by rw [List.drop_zero]
  rw [h, after_split l 0 34, after_split l 34 7, after_split l 41 43,
    after_split l 84 43, after_split l 127 43, after_split l 170 43, after_split l 213 43, after_split l 256 29, List.drop_zero]

theorem after_line (V : Valuation τ sig (Elt Ideal)) : after line V =
    after softening (after perturbing (after (rounds 4) (after (rounds 3) (after (rounds 2) (after (rounds 1) (after (rounds 0)
      (after entering (after opening V)))))))) := by
  unfold softening perturbing rounds entering opening
  exact after_pieces line V

theorem hashed (hV : Given X V) (y : S1024x100000.Idx) :
    word (after (rounds 4) (after (rounds 3) (after (rounds 2) (after (rounds 1) (after (rounds 0) (after entering V)))))
        (Proc.devRef .tc main_call0_v19_0)) y ^^^
      word (after (rounds 4) (after (rounds 3) (after (rounds 2) (after (rounds 1) (after (rounds 0) (after entering V)))))
        (Proc.devRef .tc main_call0_v19_1)) y = hash1 (counter y) := by
  have k := keys_entering hV
  have k0 := keys_rounds 0 (by decide) k
  have k1 := keys_rounds 1 (by decide) k0
  have k2 := keys_rounds 2 (by decide) k1
  have k3 := keys_rounds 3 (by decide) k2
  have e4 := rounds4 k3 (y := y) (fun a b => a ^^^ b) rfl rfl
  have e3 := rounds3 k2 (y := y) (fun a b => fourA1 a b fun a b => inject1 466689008#32 0#32 5#32 a b fun a b => a ^^^ b) rfl rfl
  have e2 := rounds2 k1 (y := y) (fun a b => fourB1 a b fun a b => inject1 42#32 466689008#32 4#32 a b fun a b =>
    fourA1 a b fun a b => inject1 466689008#32 0#32 5#32 a b fun a b => a ^^^ b) rfl rfl
  have e1 := rounds1 k0 (y := y) (fun a b => fourA1 a b fun a b => inject1 0#32 42#32 3#32 a b fun a b =>
    fourB1 a b fun a b => inject1 42#32 466689008#32 4#32 a b fun a b =>
    fourA1 a b fun a b => inject1 466689008#32 0#32 5#32 a b fun a b => a ^^^ b) rfl rfl
  have e0 := rounds0 k (y := y) (fun a b => fourB1 a b fun a b => inject1 466689008#32 0#32 2#32 a b fun a b =>
    fourA1 a b fun a b => inject1 0#32 42#32 3#32 a b fun a b =>
    fourB1 a b fun a b => inject1 42#32 466689008#32 4#32 a b fun a b =>
    fourA1 a b fun a b => inject1 466689008#32 0#32 5#32 a b fun a b => a ^^^ b) (entering_left hV y) (entering_right hV y)
  unfold hash1
  exact e4.trans (e3.trans (e2.trans (e1.trans e0)))

theorem after_line_value (hX : V (Proc.devRef .tc main_arg0) = X) :
    (after line V (Proc.devRef .tc main_v27) : Mat) = soft fun y => perturb (X y) (hash1 (counter y)) := by
  have g := given_opening hX
  have k4 := keys_rounds 4 (by decide) (keys_rounds 3 (by decide) (keys_rounds 2 (by decide) (keys_rounds 1 (by decide)
    (keys_rounds 0 (by decide) (keys_entering g)))))
  rw [after_line, softened]
  refine congrArg soft (funext fun y => ?_)
  rw [perturbed k4]
  exact congrArg (perturb (X y)) (hashed g y)

end Cert.ReferenceIdeal.Line
-- ==== Proof.Uniform.lean ====
/-
The uniform draw over the reals: a word of the hash, read as a number between the smallest normal number and one.
-/
module

public import proofs.«01_k».proof.Proof.RolledValue
public import Idealize.ShloMosaic.Lib.IdealHost
public import Idealize.ShloMosaic.Lib.Pipeline.ValueKit

@[expose] public section

noncomputable section

namespace Cert.Draw

open Idealize.ShloMosaic Cert.Rolled

/-- The fraction of a word: its upper 23 bits over `2 ^ 23`. -/
def frac (w : BitVec 32) : ℝ := (w.toNat / 512 : ℕ) / 2 ^ 23

theorem frac_nonneg (w : BitVec 32) : 0 ≤ frac w := by unfold frac; positivity

theorem frac_lt (w : BitVec 32) : frac w < 1 := by
  unfold frac
  rw [div_lt_one (by positivity)]
  have h : w.toNat / 512 < 2 ^ 23 := by have := w.isLt; omega
  exact_mod_cast h

theorem fraction_nat (w : BitVec 32) : (fraction1 w).toNat = 2 ^ 23 * 127 + w.toNat / 512 := by
  have h : w.toNat / 512 < 2 ^ 23 := by have := w.isLt; omega
  rw [Nat.two_pow_add_eq_or_of_lt h, Nat.or_comm]
  unfold fraction1
  rw [BitVec.toNat_or, BitVec.toNat_ushiftRight, Nat.shiftRight_eq_div_pow]
  rfl

theorem ofBits_fraction (w : BitVec 32) : Ideal.ofBits .f32 (fraction1 w) = ((1 + frac w : ℝ) : EReal) := by
  have hn := fraction_nat w
  have h : w.toNat / 512 < 2 ^ 23 := by have := w.isLt; omega
  have hs : ((fraction1 w).extractLsb' (8 + 23) 1 == 1#1) = false := by
    rw [beq_eq_false_iff_ne]
    intro e
    have e' := congrArg BitVec.toNat e
    rw [BitVec.extractLsb'_toNat, hn, Nat.shiftRight_eq_div_pow] at e'
    simp at e'
    omega
  have hx : ((fraction1 w).extractLsb' 23 8).toNat = 127 := by
    rw [BitVec.extractLsb'_toNat, hn, Nat.shiftRight_eq_div_pow]
    omega
  have hf : ((fraction1 w).extractLsb' 0 23).toNat = w.toNat / 512 := by
    rw [BitVec.extractLsb'_toNat, hn, Nat.shiftRight_eq_div_pow]
    omega
  show Ideal.ieee 8 23 (fraction1 w) = _
  unfold Ideal.ieee
  simp only [hs, hx, hf]
  rw [if_neg (by norm_num), if_neg (by norm_num)]
  congr 1
  unfold frac
  push_cast
  norm_num
  ring

/-- The smallest normal number. -/
def tiny : ℝ := 2 ^ (-126 : ℤ)

theorem ofBits_tiny : Ideal.ofBits .f32 0x00800000#32 = (tiny : EReal) := by
  show Ideal.ieee 8 23 0x00800000#32 = _
  have hs : ((0x00800000#32 : BitVec 32).extractLsb' (8 + 23) 1 == 1#1) = false := by decide
  have hx : ((0x00800000#32 : BitVec 32).extractLsb' 23 8).toNat = 1 := by decide
  have hf : ((0x00800000#32 : BitVec 32).extractLsb' 0 23).toNat = 0 := by decide
  unfold Ideal.ieee tiny
  simp only [hs, hx, hf]
  rw [if_neg (by norm_num), if_neg (by norm_num)]
  congr 1
  norm_num

theorem tiny_pos : 0 < tiny := by unfold tiny; positivity

theorem tiny_lt : tiny < 1 := by unfold tiny; norm_num

/-- The draw. -/
def unif (w : BitVec 32) : ℝ := max tiny (frac w)

theorem unif_pos (w : BitVec 32) : 0 < unif w := lt_of_lt_of_le tiny_pos (le_max_left _ _)

theorem unif_lt (w : BitVec 32) : unif w < 1 := max_lt tiny_lt (frac_lt w)

theorem fraction_sub (w : BitVec 32) :
    Ideal.ofBits .f32 (fraction1 w) - Ideal.ofBits .f32 0x3F800000#32 = (frac w : EReal) := by
  rw [ofBits_fraction, Ideal.ofBits_one_f32, ← EReal.coe_one, ← EReal.coe_sub]
  congr 1
  ring

/-- The kernel's draw. -/
theorem unif1_eq (w : BitVec 32) : (unif1 w : Ideal .f32) = (unif w : EReal) := by
  show max (Ideal.ofBits .f32 0x00800000#32) (Ideal.ofBits .f32 (fraction1 w) - Ideal.ofBits .f32 0x3F800000#32) = _
  rw [fraction_sub, ofBits_tiny, unif, EReal.coe_strictMono.monotone.map_max]

/-- The reference's draw. -/
theorem unif_ref (w : BitVec 32) :
    max (max (Ideal.ofBits .f32 0x00000000#32)
          ((Ideal.ofBits .f32 (fraction1 w) - Ideal.ofBits .f32 0x3F800000#32) * (Ideal.ofBits .f32 0x3F800000#32 - Ideal.ofBits .f32 0x00000000#32)
            + Ideal.ofBits .f32 0x00000000#32)) (Ideal.ofBits .f32 0x00800000#32) = (unif w : EReal) := by
  have z : Ideal.ofBits .f32 0x00000000#32 = 0 := Ideal.ofBits_zero .f32
  rw [fraction_sub, ofBits_tiny, z, Ideal.ofBits_one_f32, sub_zero, mul_one, add_zero,
    max_eq_right (EReal.coe_nonneg.2 (frac_nonneg w)), max_comm, unif, EReal.coe_strictMono.monotone.map_max]

end Cert.Draw
-- ==== Proof.SoftMath.lean ====
/-
Softmax of perturbed logits over the extended reals, and the same from unnormalized weights.
-/
module

public import Idealize.ShloMosaic.Lib.IdealHost
public import Idealize.ShloMosaic.Lib.Pipeline.ValueKit

@[expose] public section

noncomputable section

namespace Cert.SoftMath

open Idealize.ShloMosaic

/-- The exponential of a logit: zero at minus infinity. -/
def weightOf : EReal → ℝ
  | ⊥ => 0
  | ⊤ => 0
  | (r : ℝ) => Real.exp r

theorem weightOf_coe (r : ℝ) : weightOf (r : EReal) = Real.exp r := rfl
theorem weightOf_bot : weightOf ⊥ = 0 := rfl

theorem weightOf_nonneg (x : EReal) : 0 ≤ weightOf x := by
  induction x using EReal.rec with
  | bot => exact le_refl _
  | top => exact le_refl _
  | coe r => exact (Real.exp_pos r).le

/-- The logarithm of a draw below one. -/
theorem log_draw {u : ℝ} (h : 0 < u) : Ideal.log (u : EReal) = (Real.log u : EReal) := by
  show (if u ≤ 0 then ⊥ else (Real.log u : EReal)) = _
  rw [if_neg (not_le.2 h)]

theorem exp_coe (r : ℝ) : Ideal.exp (r : EReal) = (Real.exp r : EReal) := rfl

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The kernel's weight at logit `x` and draw `u`. -/
theorem kernel_weight {x : EReal} (hx : x ≠ ⊤) {u : ℝ} (h0 : 0 < u) (h1 : u < 1) :
    Ideal.div (Ideal.exp2 (x * ((Real.log 2)⁻¹ : ℝ))) (0 - Ideal.log (u : EReal) * ((Real.log 2)⁻¹ : ℝ))
      = ((weightOf x / -Real.log u * Real.log 2 : ℝ) : EReal) := by
  have hl : 0 < Real.log 2 := Real.log_pos (by norm_num)
  have hu : Real.log u < 0 := Real.log_neg h0 h1
  rw [log_draw h0, ← EReal.coe_mul, ← EReal.coe_zero, ← EReal.coe_sub]
  have hd : 0 - Real.log u * (Real.log 2)⁻¹ ≠ 0 := by
    have : Real.log u * (Real.log 2)⁻¹ < 0 := mul_neg_of_neg_of_pos hu (inv_pos.2 hl)
    linarith
  have he : Ideal.exp2 (x * ((Real.log 2)⁻¹ : ℝ)) = (weightOf x : EReal) := by
    induction x using EReal.rec with
    | bot =>
      rw [EReal.bot_mul_coe_of_pos (inv_pos.2 hl)]
      rfl
    | top => exact absurd rfl hx
    | coe r =>
      rw [← EReal.coe_mul]
      show ((Real.rpow 2 (r * (Real.log 2)⁻¹) : ℝ) : EReal) = _
      congr 1
      show (2 : ℝ) ^ (r * (Real.log 2)⁻¹) = Real.exp r
      rw [Real.rpow_def_of_pos (by norm_num)]
      congr 1
      field_simp
  rw [he, div_coe hd]
  congr 1
  rw [zero_sub, ← div_eq_mul_inv, ← neg_div, div_div_eq_mul_div, div_mul_eq_mul_div]

/-- A finite logit shift under the exponential. -/
theorem ref_weight {x : EReal} (hx : x ≠ ⊤) {u M : ℝ} (h0 : 0 < u) (h1 : u < 1) :
    Ideal.exp (x + -Ideal.log (-Ideal.log (u : EReal)) - (M : EReal)) = ((weightOf x / -Real.log u * Real.exp (-M) : ℝ) : EReal) := by
  have hu : 0 < -Real.log u := neg_pos.2 (Real.log_neg h0 h1)
  rw [log_draw h0, ← EReal.coe_neg, log_draw hu, ← EReal.coe_neg]
  induction x using EReal.rec with
  | bot =>
    rw [EReal.bot_add, EReal.bot_sub, weightOf_bot]
    rw [zero_div, zero_mul]
    rfl
  | top => exact absurd rfl hx
  | coe r =>
    rw [← EReal.coe_add, ← EReal.coe_sub, exp_coe, weightOf_coe]
    congr 1
    rw [sub_eq_add_neg, Real.exp_add, Real.exp_add, Real.exp_neg (Real.log (-Real.log u)), Real.exp_log hu]
    rfl

/-- The perturbed logit. -/
def shifted (x : EReal) (u : ℝ) : EReal := x + -Ideal.log (-Ideal.log (u : EReal))

theorem shifted_ne_top {x : EReal} (hx : x ≠ ⊤) {u : ℝ} (h0 : 0 < u) (h1 : u < 1) : shifted x u ≠ ⊤ := by
  have hu : 0 < -Real.log u := neg_pos.2 (Real.log_neg h0 h1)
  unfold shifted
  rw [log_draw h0, ← EReal.coe_neg, log_draw hu, ← EReal.coe_neg]
  exact EReal.add_ne_top hx (EReal.coe_ne_top _)

theorem shifted_ne_bot {x : EReal} (hx : x ≠ ⊥) {u : ℝ} (h0 : 0 < u) (h1 : u < 1) : shifted x u ≠ ⊥ := by
  have hu : 0 < -Real.log u := neg_pos.2 (Real.log_neg h0 h1)
  unfold shifted
  rw [log_draw h0, ← EReal.coe_neg, log_draw hu, ← EReal.coe_neg]
  exact EReal.add_ne_bot_iff.2 ⟨hx, EReal.coe_ne_bot _⟩

section Row

variable {ι : Type} [Fintype ι]

theorem fold_lt_top {z : ι → EReal} (hz : ∀ i, z i ≠ ⊤) : Finset.univ.fold max ⊥ z ≠ ⊤ := by
  rw [← lt_top_iff_ne_top, Finset.fold_max_lt]
  exact ⟨bot_lt_top, fun i _ => lt_top_iff_ne_top.2 (hz i)⟩

theorem bot_lt_fold {z : ι → EReal} {i : ι} (hi : z i ≠ ⊥) : Finset.univ.fold max ⊥ z ≠ ⊥ := by
  rw [← bot_lt_iff_ne_bot, Finset.lt_fold_max]
  exact .inr ⟨i, Finset.mem_univ i, bot_lt_iff_ne_bot.2 hi⟩

theorem coe_sum (f : ι → ℝ) : ∑ i, (f i : EReal) = ((∑ i, f i : ℝ) : EReal) := by
  induction (Finset.univ : Finset ι) using Finset.cons_induction with
  | empty => rfl
  | cons a s h ih => rw [Finset.sum_cons, Finset.sum_cons, ih, EReal.coe_add]

/-- The two ways agree at every class of a row whose largest logit is finite. -/
theorem row_eq (x : ι → EReal) (u : ι → ℝ) (hx : ∀ i, x i ≠ ⊤) (hp : ∃ i, x i ≠ ⊥) (h0 : ∀ i, 0 < u i) (h1 : ∀ i, u i < 1) (i : ι) :
    Ideal.div (Ideal.exp2 (x i * ((Real.log 2)⁻¹ : ℝ))) (0 - Ideal.log (u i : EReal) * ((Real.log 2)⁻¹ : ℝ))
        * Ideal.div 1 (∑ j, Ideal.div (Ideal.exp2 (x j * ((Real.log 2)⁻¹ : ℝ))) (0 - Ideal.log (u j : EReal) * ((Real.log 2)⁻¹ : ℝ)))
      = Ideal.div (Ideal.exp (shifted (x i) (u i) - Finset.univ.fold max ⊥ fun j => shifted (x j) (u j)))
        (∑ j, Ideal.exp (shifted (x j) (u j) - Finset.univ.fold max ⊥ fun j => shifted (x j) (u j))) := by
  obtain ⟨p, hp⟩ := hp
  have ht := fold_lt_top (z := fun j => shifted (x j) (u j)) fun j => shifted_ne_top (hx j) (h0 j) (h1 j)
  have hb := bot_lt_fold (z := fun j => shifted (x j) (u j)) (i := p) (shifted_ne_bot hp (h0 p) (h1 p))
  generalize (Finset.univ.fold max ⊥ fun j => shifted (x j) (u j)) = M at ht hb ⊢
  lift M to ℝ using ⟨ht, hb⟩
  unfold shifted
  simp only [kernel_weight (hx _) (h0 _) (h1 _), ref_weight (hx _) (h0 _) (h1 _)]
  rw [coe_sum, coe_sum, ← Finset.sum_mul, ← Finset.sum_mul]
  have hl : 0 < Real.log 2 := Real.log_pos (by norm_num)
  have hn : ∀ j, 0 ≤ weightOf (x j) / -Real.log (u j) := fun j =>
    div_nonneg (weightOf_nonneg _) (neg_pos.2 (Real.log_neg (h0 j) (h1 j))).le
  have hs : 0 < ∑ j, weightOf (x j) / -Real.log (u j) := by
    refine Finset.sum_pos' (fun j _ => hn j) ⟨p, Finset.mem_univ p, ?_⟩
    refine div_pos ?_ (neg_pos.2 (Real.log_neg (h0 p) (h1 p)))
    generalize hq : x p = q at hp
    induction q using EReal.rec with
    | bot => exact absurd rfl hp
    | top => exact absurd hq (hx p)
    | coe r => exact Real.exp_pos r
  generalize (∑ j, weightOf (x j) / -Real.log (u j)) = S at hs ⊢
  have hM := Real.exp_pos (-M)
  rw [← EReal.coe_one, div_coe (mul_pos hs hl).ne', div_coe (mul_pos hs hM).ne', ← EReal.coe_mul]
  congr 1
  generalize weightOf (x i) / -Real.log (u i) = a
  field_simp

end Row

end Cert.SoftMath
-- ==== Proof.Equation.lean ====
/-
The two results, element by element.
-/
module

public import proofs.«01_k».proof.Proof.KernelSum
public import proofs.«01_k».proof.Proof.RefValue
public import proofs.«01_k».proof.Proof.Uniform
public import proofs.«01_k».proof.Proof.SoftMath
public import proofs.«01_k».proof.Defs
public import proofs.«01_k».proof.Proof.Gen.Pre_row_peak_finite
public import Idealize.ShloMosaic.Lib.ReduceAll

@[expose] public section

set_option maxRecDepth 16384

noncomputable section

namespace Cert.Equation

open Idealize.ShloMosaic Idealize.ShloMosaic.TcCoe

/-- The logits. -/
abbrev Mat : Type := Cert.ReferenceIdeal.Line.Mat

/-- The draw of an element. -/
def draw (b : Fin 1024) (v : Fin 100000) : ℝ :=
  Draw.unif (Rolled.hash1 (BitVec.ofNat 32 b.val * 100000#32 + BitVec.ofNat 32 v.val))

theorem counter_eq (b : Fin 1024) (v : Fin 100000) :
    Cert.ReferenceIdeal.Line.counter (ix2 b v) = BitVec.ofNat 32 b.val * 100000#32 + BitVec.ofNat 32 v.val := by
  unfold Cert.ReferenceIdeal.Line.counter
  show (100000#64 * BitVec.ofNat 64 b.val + 1#64 * BitVec.ofNat 64 v.val).setWidth 32 = _
  apply BitVec.eq_of_toNat_eq
  have hb := b.isLt
  have hv := v.isLt
  simp only [BitVec.toNat_setWidth, BitVec.toNat_add, BitVec.toNat_mul, BitVec.toNat_ofNat]
  omega

theorem perturb_eq (x : EReal) (w : BitVec 32) :
    Cert.ReferenceIdeal.Line.perturb x w = SoftMath.shifted x (Draw.unif w) := by
  unfold Cert.ReferenceIdeal.Line.perturb
  rw [Draw.unif_ref, Ideal.ofBits_one_f32]
  show Ideal.div (SoftMath.shifted x (Draw.unif w)) 1 = _
  unfold Ideal.div
  rw [if_neg one_ne_zero, inv_one, mul_one]

theorem ofBits_ninf : Ideal.ofBits .f32 0xFF800000#32 = ⊥ := by
  simp [Ideal.ofBits, Ideal.ieee]

section Generic

variable {n : ℕ}

/-- A row's softmax, whatever the number of classes. -/
theorem softmax_at (z : FVec Ideal ⟨2, ![1024, n]⟩ .f32) (h : (⟨2, ![1024, n]⟩ : Shape).ReducesTo [1] ⟨1, ![1024]⟩)
    (hu : 0 < (⟨0, ![]⟩ : Shape).numel) (b0 : (⟨0, ![]⟩ : Shape).BroadcastsInDim ⟨1, ![1024]⟩ (![] : Fin 0 → Fin 1))
    (b1 : (⟨1, ![1024]⟩ : Shape).BroadcastsInDim ⟨2, ![1024, 1]⟩ (![0] : Fin 1 → Fin 2))
    (b2 : (⟨2, ![1024, 1]⟩ : Shape).BroadcastsInDim ⟨2, ![1024, n]⟩ (![0, 1] : Fin 2 → Fin 2)) (b : Fin 1024) (v : Fin n) :
    (let e := Host.exp (F := Ideal) (φ := .f32) (subf z (broadcastInDim ⟨2, ![1024, n]⟩ ![0, 1] b2 (broadcastInDim ⟨2, ![1024, 1]⟩ ![0] b1
      (maximumf (broadcastInDim ⟨1, ![1024]⟩ ![] b0 (constant ⟨0, ![]⟩ .f32 0xFF800000#32))
        (Host.reduce FloatOps.maximumf z (constant ⟨0, ![]⟩ .f32 0xFF800000#32) h hu)))))
     Host.divf e (broadcastInDim ⟨2, ![1024, n]⟩ ![0, 1] b2 (broadcastInDim ⟨2, ![1024, 1]⟩ ![0] b1
       (Host.reduceAdd e (constant ⟨0, ![]⟩ .f32 0x00000000#32) h hu)))) (ix2 b v)
      = Ideal.div (Ideal.exp (z (ix2 b v) - Finset.univ.fold max ⊥ fun k : Fin n => z (ix2 b k)))
        (∑ j : Fin n, Ideal.exp (z (ix2 b j) - Finset.univ.fold max ⊥ fun k : Fin n => z (ix2 b k))) := by
  pointwise
  rw [ofBits_ninf]
  simp only [bot_sup_eq]

end Generic

theorem soft_at (z : Mat) (b : Fin 1024) (v : Fin 100000) :
    Cert.ReferenceIdeal.Line.soft z (ix2 b v)
      = Ideal.div (Ideal.exp (z (ix2 b v) - Finset.univ.fold max ⊥ fun k : Fin 100000 => z (ix2 b k)))
        (∑ j : Fin 100000, Ideal.exp (z (ix2 b j) - Finset.univ.fold max ⊥ fun k : Fin 100000 => z (ix2 b k))) :=
  softmax_at z _ _ _ _ _ b v

/-- The kernel's weight. -/
theorem mass_at (m : (ℓ : Loc Cert.KernelIdeal.nD Cert.KernelIdeal.τ Cert.KernelIdeal.sig) → Buf (Elt Ideal) ℓ) (c : Dev Cert.KernelIdeal.nD)
    (X : Mat) (hX : (m ((c.tc : Thread Cert.KernelIdeal.nD Cert.KernelIdeal.τ).loc Cert.KernelIdeal.main_arg0) : Mat) = X)
    (b : Fin 1024) (v : Fin 100000) :
    Cert.KernelIdeal.Run.mass m c (ix2 v b)
      = Ideal.div (Ideal.exp2 (X (ix2 b v) * ((Real.log 2)⁻¹ : ℝ)))
          (0 - Ideal.log (draw b v : EReal) * ((Real.log 2)⁻¹ : ℝ)) := by
  subst hX
  unfold Cert.KernelIdeal.Run.mass
  rw [Cert.KernelIdeal.Run.logits_at]
  show Ideal.div _ (Ideal.ofBits .f32 0x00000000#32 - Ideal.log (Rolled.unif1 _ : Ideal .f32) * _) = _
  rw [Draw.unif1_eq, Ideal.ofBits_zero .f32]
  rfl

/-- What the precondition says of a row. -/
theorem peak_at {n : ℕ} (z : FVec Ideal ⟨2, ![1024, n]⟩ .f32) (h : (⟨2, ![1024, n]⟩ : Shape).ReducesTo [1] ⟨1, ![1024]⟩)
    (hu : 0 < (⟨0, ![]⟩ : Shape).numel) (b : Fin 1024) :
    Host.reduce FloatOps.maximumf z (constant ⟨0, ![]⟩ .f32 0xFF800000#32) h hu (ix1 b) = Finset.univ.fold max ⊥ fun k : Fin n => z (ix2 b k) := by
  pointwise
  rw [ofBits_ninf]

theorem ofBits_pinf : Ideal.ofBits .f32 0x7F800000#32 = ⊤ := by
  simp [Ideal.ofBits, Ideal.ieee]

theorem rows_of_peak {n : ℕ} (z : FVec Ideal ⟨2, ![1024, n]⟩ .f32) (h : (⟨2, ![1024, n]⟩ : Shape).ReducesTo [1] ⟨1, ![1024]⟩)
    (hu : 0 < (⟨0, ![]⟩ : Shape).numel) (b0 : (⟨0, ![]⟩ : Shape).BroadcastsInDim ⟨1, ![1024]⟩ (![] : Fin 0 → Fin 1))
    (h1 : (⟨1, ![1024]⟩ : Shape).ReducesTo [0] ⟨0, ![]⟩)
    (e : Host.reduce IntOp.andi (andi
        (cmpf .ogt (Host.reduce FloatOps.maximumf z (constant ⟨0, ![]⟩ .f32 0xFF800000#32) h hu)
          (broadcastInDim ⟨1, ![1024]⟩ ![] b0 (constant ⟨0, ![]⟩ .f32 0xFF800000#32)))
        (cmpf .olt (Host.reduce FloatOps.maximumf z (constant ⟨0, ![]⟩ .f32 0xFF800000#32) h hu)
          (broadcastInDim ⟨1, ![1024]⟩ ![] b0 (constant ⟨0, ![]⟩ .f32 0x7F800000#32))))
        (constantI ⟨0, ![]⟩ 1 1#1) h1 hu = fun _ => 1#1) (b : Fin 1024) :
    (∀ v : Fin n, z (ix2 b v) ≠ ⊤) ∧ ∃ v : Fin n, z (ix2 b v) ≠ ⊥ := by
  have hb := Host.reduce_andi_eq_one _ _ _ _ ix0 (congrFun e ix0) (ix1 b) (by funext a; exact a.elim0)
  obtain ⟨g1, g2⟩ := IntOp.andi_eq_one.1 hb
  have p := peak_at z h hu b
  replace g1 : Ideal.cmp .ogt _ (Ideal.ofBits .f32 0xFF800000#32) = 1#1 := g1
  replace g2 : Ideal.cmp .olt _ (Ideal.ofBits .f32 0x7F800000#32) = 1#1 := g2
  rw [p, ofBits_ninf] at g1
  rw [p, ofBits_pinf] at g2
  have ofb : ∀ p : Bool, BitVec.ofBool p = 1#1 → p = true := by decide
  replace g1 := of_decide_eq_true (ofb _ g1)
  replace g2 := of_decide_eq_true (ofb _ g2)
  rw [Finset.lt_fold_max] at g1
  rw [Finset.fold_max_lt] at g2
  refine ⟨fun v => (g2.2 v (Finset.mem_univ v)).ne, ?_⟩
  obtain h | ⟨v, _, hv⟩ := g1
  · exact absurd h (lt_irrefl _)
  · exact ⟨v, hv.ne'⟩

theorem of_peak (X : Mat) (h : Cert.Pre_row_peak_finite.fn (F := Ideal) X = fun _ => 1#1) (b : Fin 1024) :
    (∀ v : Fin 100000, X (ix2 b v) ≠ ⊤) ∧ ∃ v : Fin 100000, X (ix2 b v) ≠ ⊥ :=
  rows_of_peak X _ _ _ _ h b

/-- The two programs' results agree where every row's largest logit is finite. -/
theorem results_eq (m : (ℓ : Loc Cert.KernelIdeal.nD Cert.KernelIdeal.τ Cert.KernelIdeal.sig) → Buf (Elt Ideal) ℓ) (c : Dev Cert.KernelIdeal.nD)
    (X : Mat) (hX : (m ((c.tc : Thread Cert.KernelIdeal.nD Cert.KernelIdeal.τ).loc Cert.KernelIdeal.main_arg0) : Mat) = X)
    (ht : ∀ b v, X (ix2 b v) ≠ ⊤) (hp : ∀ b : Fin 1024, ∃ v : Fin 100000, X (ix2 b v) ≠ ⊥) :
    (Cert.KernelIdeal.Run.W4 m c (Proc.devRef .tc Cert.KernelIdeal.main_v3) : Mat)
      = Cert.ReferenceIdeal.Line.soft fun y => Cert.ReferenceIdeal.Line.perturb (X y) (Rolled.hash1 (Cert.ReferenceIdeal.Line.counter y)) := by
  funext y
  obtain ⟨b, v, rfl⟩ : ∃ (b : Fin 1024) (v : Fin 100000), y = ix2 b v := ⟨y 0, y 1, by funext a; fin_cases a <;> rfl⟩
  refine (Cert.KernelIdeal.Run.out_at m c (ix2 b v)).trans ?_
  rw [soft_at]
  simp only [perturb_eq, counter_eq]
  refine Eq.trans ?_ (SoftMath.row_eq (fun k => X (ix2 b k)) (draw b) (ht b) (hp b) (fun _ => Draw.unif_pos _) (fun _ => Draw.unif_lt _) v)
  have hs : Cert.KernelIdeal.Run.rowSum m c b = _ := Finset.sum_congr rfl fun v _ => mass_at m c X hX b v
  exact congrArg₂ (fun p q : EReal => p * Ideal.div 1 q) (mass_at m c X hX b v) hs

end Cert.Equation
-- ==== Proof.lean ====
module

public import proofs.«01_k».proof.Defs
public import proofs.«01_k».proof.Proof.Gen.Kernel
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelRun
public import proofs.«01_k».proof.Proof.Equation
public import proofs.«01_k».proof.Proof.Gen.Pre_row_peak_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_row_peak_finite.Gen.facts,
  fun m g _ => θ_run_mono (Cert.Kernel.Run.run m g) fun _ h => ⟨fun c => (h.1 c).1, h.2⟩,
  fun m g _ => θ_run_mono (Cert.KernelIdeal.Run.run m g) fun _ h => ⟨fun c => (h.1 c).1, h.2⟩,
  fun m g _ => θ_run_mono (Cert.KernelIdeal.Run.run m g) fun _ h => ⟨fun c => (h.1 c).1, h.2⟩,
  fun m g _ => θ_run_mono (Cert.ReferenceIdeal.Line.run m g) fun _ h => ⟨fun c => (h.1 c).1, h.2⟩,
  fun m g _ => θ_run_mono (Cert.ReferenceIdeal.Line.run m g) fun _ h => ⟨fun c => (h.1 c).1, h.2⟩,
  IdealRules.named_const.statement Cert.KernelIdeal.κ "log2e" .f32 0x3FB8AA3B#32 (((Real.log 2)⁻¹ : ℝ) : EReal) rfl,
  fun m g m' g' hp ha => ⟨fun c => Cert.KernelIdeal.Run.W4 m c (Proc.devRef .tc Cert.KernelIdeal.main_v3),
    θ_run_mono (Cert.KernelIdeal.Run.run m g) fun _ h c => ⟨(h.1 c).2, (h.1 c).1⟩,
    θ_run_mono (Cert.ReferenceIdeal.Line.run m' g') fun _ h c => ⟨(h.1 c).2.trans
      ((Cert.ReferenceIdeal.Line.after_line_value (ha c)).trans
        (Cert.Equation.results_eq m c _ rfl (fun b => (Cert.Equation.of_peak _ (hp c) b).1) fun b => (Cert.Equation.of_peak _ (hp c) b).2).symm),
      (h.1 c).1⟩⟩⟩

end Cert.Proof

end
